-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![2048, 1024]⟩ ⟨2, ![2048, 4096]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1024, 2048]⟩ ⟨2, ![4096, 2048]⟩ 0 4 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v3) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x1024 : Shape := ⟨2, ![2048, 1024]⟩
abbrev S1024x2048 : Shape := ⟨2, ![1024, 2048]⟩
abbrev S2048x2048 : Shape := ⟨2, ![2048, 2048]⟩
abbrev S4x512x1024 : Shape := ⟨3, ![4, 512, 1024]⟩
abbrev S3x512x1024 : Shape := ⟨3, ![3, 512, 1024]⟩
abbrev S2x6 : Shape := ⟨2, ![2, 6]⟩
abbrev S_ : Shape := ⟨0, ![]⟩
abbrev S512x1024 : Shape := ⟨2, ![512, 1024]⟩
abbrev S1024x512 : Shape := ⟨2, ![1024, 512]⟩
abbrev S512x512 : Shape := ⟨2, ![512, 512]⟩
abbrev S1x512x512 : Shape := ⟨3, ![1, 512, 512]⟩
abbrev S1x1 : Shape := ⟨2, ![1, 1]⟩
abbrev S1024x1024 : Shape := ⟨2, ![1024, 1024]⟩
abbrev S1x512x1024 : Shape := ⟨3, ![1, 512, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2048x1024, .bf16⟩
  | .hbm, ⟨1, _⟩ => ⟨S1024x2048, .bf16⟩
  | .hbm, ⟨2, _⟩ => ⟨S2048x2048, .bf16⟩
  | .local _ .vmem, ⟨0, _⟩ => ⟨S2048x1024, .bf16⟩
  | .local _ .vmem, ⟨1, _⟩ => ⟨S1024x2048, .bf16⟩
  | .local _ .vmem, ⟨2, _⟩ => ⟨S2048x2048, .bf16⟩
  | .local _ .vmem, ⟨3, _⟩ => ⟨S4x512x1024, .bf16⟩
  | .local _ .vmem, ⟨4, _⟩ => ⟨S4x512x1024, .bf16⟩
  | .local _ .vmem, ⟨5, _⟩ => ⟨S3x512x1024, .bf16⟩
  | .local _ .vmem, ⟨6, _⟩ => ⟨S3x512x1024, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 51 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | _ => false

abbrev sig : RefSig :=
  (ofTc nBuf bufTy 1 51 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_sem0_0 : DmaSem sig := 0
abbrev cc0_sem1_0 : DmaSem sig := 1
abbrev cc0_sem2_0 : DmaSem sig := 2
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_8 : BitVec 32 := 1#32
  let v11 : BitVec 32 := Scalar.muli v7 c1_i32_8
  let v12 : BitVec 32 := Scalar.addi c0_i32_9 v11
  v12.toNat
def k0_off1 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32 : BitVec 32 := 512#32
  let v15 : BitVec 32 := Scalar.muli v2 c512_i32
  let v16 : Index := Scalar.indexCast v15
  let c0_11 : Index := 0#32
  ![v16.toNat, 0]
def k0_dev3 (d0 : Dev nD) : Nat :=
  let c0_i32_22 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_21 : BitVec 32 := 1#32
  let v25 : BitVec 32 := Scalar.muli v7 c1_i32_21
  let v26 : BitVec 32 := Scalar.addi c0_i32_22 v25
  v26.toNat
def k0_dev4 (d0 : Dev nD) : Nat :=
  let c0_i32_38 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_37 : BitVec 32 := 1#32
  let v41 : BitVec 32 := Scalar.muli v5 c1_i32_37
  let v42 : BitVec 32 := Scalar.addi c0_i32_38 v41
  v42.toNat
def k0_dev5 (d0 : Dev nD) : Nat :=
  let c0_i32_53 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_52 : BitVec 32 := 1#32
  let v57 : BitVec 32 := Scalar.muli v7 c1_i32_52
  let v58 : BitVec 32 := Scalar.addi c0_i32_53 v57
  v58.toNat
def k0_dev6 (d0 : Dev nD) : Nat :=
  let c0_i32_69 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_68 : BitVec 32 := 1#32
  let v73 : BitVec 32 := Scalar.muli v5 c1_i32_68
  let v74 : BitVec 32 := Scalar.addi c0_i32_69 v73
  v74.toNat
def k0_off2 (d0 : Dev nD) (c3_i32 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v83 : BitVec 32 := Scalar.addi v2 c3_i32
  let c4_i32_74 : BitVec 32 := 4#32
  let v84 : BitVec 32 := Scalar.remsi v83 c4_i32_74
  let c512_i32_75 : BitVec 32 := 512#32
  let v85 : BitVec 32 := Scalar.muli v84 c512_i32_75
  let v86 : Index := Scalar.indexCast v85
  let c0_76 : Index := 0#32
  ![v86.toNat, 0]
def k0_dev7 (d0 : Dev nD) : Nat :=
  let c0_i32_116 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_115 : BitVec 32 := 1#32
  let v123 : BitVec 32 := Scalar.muli v7 c1_i32_115
  let v124 : BitVec 32 := Scalar.addi c0_i32_116 v123
  v124.toNat
def k0_dev8 (d0 : Dev nD) : Nat :=
  let c0_i32_149 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_148 : BitVec 32 := 1#32
  let v149 : BitVec 32 := Scalar.muli v5 c1_i32_148
  let v150 : BitVec 32 := Scalar.addi c0_i32_149 v149
  v150.toNat
def k0_dev9 (d0 : Dev nD) : Nat :=
  let c0_i32_197 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_196 : BitVec 32 := 1#32
  let v199 : BitVec 32 := Scalar.muli v7 c1_i32_196
  let v200 : BitVec 32 := Scalar.addi c0_i32_197 v199
  v200.toNat
def k0_dev10 (d0 : Dev nD) : Nat :=
  let c0_i32_230 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_229 : BitVec 32 := 1#32
  let v225 : BitVec 32 := Scalar.muli v5 c1_i32_229
  let v226 : BitVec 32 := Scalar.addi c0_i32_230 v225
  v226.toNat
def k0_dev11 (d0 : Dev nD) : Nat :=
  let c0_i32_278 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_277 : BitVec 32 := 1#32
  let v275 : BitVec 32 := Scalar.muli v7 c1_i32_277
  let v276 : BitVec 32 := Scalar.addi c0_i32_278 v275
  v276.toNat
def k0_dev12 (d0 : Dev nD) : Nat :=
  let c0_i32_311 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_310 : BitVec 32 := 1#32
  let v301 : BitVec 32 := Scalar.muli v5 c1_i32_310
  let v302 : BitVec 32 := Scalar.addi c0_i32_311 v301
  v302.toNat
def k0_dev13 (d0 : Dev nD) : Nat :=
  let c0_i32_344 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_343 : BitVec 32 := 1#32
  let v327 : BitVec 32 := Scalar.muli v7 c1_i32_343
  let v328 : BitVec 32 := Scalar.addi c0_i32_344 v327
  v328.toNat
def k0_dev14 (d0 : Dev nD) : Nat :=
  let c0_i32_377 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_376 : BitVec 32 := 1#32
  let v353 : BitVec 32 := Scalar.muli v5 c1_i32_376
  let v354 : BitVec 32 := Scalar.addi c0_i32_377 v353
  v354.toNat
def k0_dev15 (d0 : Dev nD) : Nat :=
  let c0_i32_480 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_479 : BitVec 32 := 1#32
  let v434 : BitVec 32 := Scalar.muli v7 c1_i32_479
  let v435 : BitVec 32 := Scalar.addi c0_i32_480 v434
  v435.toNat
def k0_dev16 (d0 : Dev nD) : Nat :=
  let c0_i32_499 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_498 : BitVec 32 := 1#32
  let v451 : BitVec 32 := Scalar.muli v5 c1_i32_498
  let v452 : BitVec 32 := Scalar.addi c0_i32_499 v451
  v452.toNat
def k0_dev17 (d0 : Dev nD) : Nat :=
  let c0_i32_518 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_517 : BitVec 32 := 1#32
  let v468 : BitVec 32 := Scalar.muli v7 c1_i32_517
  let v469 : BitVec 32 := Scalar.addi c0_i32_518 v468
  v469.toNat
def k0_dev18 (d0 : Dev nD) : Nat :=
  let c0_i32_537 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_536 : BitVec 32 := 1#32
  let v485 : BitVec 32 := Scalar.muli v5 c1_i32_536
  let v486 : BitVec 32 := Scalar.addi c0_i32_537 v485
  v486.toNat
def k0_off3 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_542 : BitVec 32 := 1#32
  let v495 : BitVec 32 := Scalar.addi v2 c1_i32_542
  let c4_i32_543 : BitVec 32 := 4#32
  let v496 : BitVec 32 := Scalar.remsi v495 c4_i32_543
  let c512_i32_547 : BitVec 32 := 512#32
  let v499 : BitVec 32 := Scalar.muli v496 c512_i32_547
  let v500 : Index := Scalar.indexCast v499
  let c0_548 : Index := 0#32
  ![v500.toNat, 0]
def k0_off4 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_549 : BitVec 32 := 4#32
  let v502 : BitVec 32 := Scalar.addi v2 c4_i32_549
  let c1_i32_550 : BitVec 32 := 1#32
  let v503 : BitVec 32 := Scalar.subi v502 c1_i32_550
  let c4_i32_551 : BitVec 32 := 4#32
  let v504 : BitVec 32 := Scalar.remsi v503 c4_i32_551
  let c512_i32_555 : BitVec 32 := 512#32
  let v507 : BitVec 32 := Scalar.muli v504 c512_i32_555
  let v508 : Index := Scalar.indexCast v507
  let c1024 : Index := 1024#32
  ![v508.toNat, 1024]
def k0_dev19 (d0 : Dev nD) : Nat :=
  let c0_i32_575 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_574 : BitVec 32 := 1#32
  let v518 : BitVec 32 := Scalar.muli v7 c1_i32_574
  let v519 : BitVec 32 := Scalar.addi c0_i32_575 v518
  v519.toNat
def k0_off5 (d0 : Dev nD) (c0_i32_581 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_580 : BitVec 32 := 4#32
  let v528 : BitVec 32 := Scalar.addi v2 c4_i32_580
  let v529 : BitVec 32 := Scalar.subi v528 c0_i32_581
  let c4_i32_582 : BitVec 32 := 4#32
  let v530 : BitVec 32 := Scalar.remsi v529 c4_i32_582
  let c512_i32_586 : BitVec 32 := 512#32
  let v533 : BitVec 32 := Scalar.muli v530 c512_i32_586
  let v534 : Index := Scalar.indexCast v533
  let c0_587 : Index := 0#32
  ![v534.toNat, 0]
def k0_dev20 (d0 : Dev nD) : Nat :=
  let c0_i32_607 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_606 : BitVec 32 := 1#32
  let v544 : BitVec 32 := Scalar.muli v5 c1_i32_606
  let v545 : BitVec 32 := Scalar.addi c0_i32_607 v544
  v545.toNat
def k0_off6 (d0 : Dev nD) (c0_i32_612 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v554 : BitVec 32 := Scalar.addi v2 c0_i32_612
  let c4_i32_613 : BitVec 32 := 4#32
  let v555 : BitVec 32 := Scalar.remsi v554 c4_i32_613
  let c512_i32_617 : BitVec 32 := 512#32
  let v558 : BitVec 32 := Scalar.muli v555 c512_i32_617
  let v559 : Index := Scalar.indexCast v558
  let c1024_618 : Index := 1024#32
  ![v559.toNat, 1024]
def k0_dev21 (d0 : Dev nD) : Nat :=
  let c0_i32_638 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_637 : BitVec 32 := 1#32
  let v569 : BitVec 32 := Scalar.muli v7 c1_i32_637
  let v570 : BitVec 32 := Scalar.addi c0_i32_638 v569
  v570.toNat
def k0_off7 (d0 : Dev nD) (c0_i32_644 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_643 : BitVec 32 := 4#32
  let v579 : BitVec 32 := Scalar.addi v2 c4_i32_643
  let v580 : BitVec 32 := Scalar.subi v579 c0_i32_644
  let c4_i32_645 : BitVec 32 := 4#32
  let v581 : BitVec 32 := Scalar.remsi v580 c4_i32_645
  let c512_i32_649 : BitVec 32 := 512#32
  let v584 : BitVec 32 := Scalar.muli v581 c512_i32_649
  let v585 : Index := Scalar.indexCast v584
  let c512_650 : Index := 512#32
  ![v585.toNat, 512]
def k0_dev22 (d0 : Dev nD) : Nat :=
  let c0_i32_670 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_669 : BitVec 32 := 1#32
  let v595 : BitVec 32 := Scalar.muli v5 c1_i32_669
  let v596 : BitVec 32 := Scalar.addi c0_i32_670 v595
  v596.toNat
def k0_off8 (d0 : Dev nD) (c0_i32_675 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v605 : BitVec 32 := Scalar.addi v2 c0_i32_675
  let c4_i32_676 : BitVec 32 := 4#32
  let v606 : BitVec 32 := Scalar.remsi v605 c4_i32_676
  let c512_i32_680 : BitVec 32 := 512#32
  let v609 : BitVec 32 := Scalar.muli v606 c512_i32_680
  let v610 : Index := Scalar.indexCast v609
  let c1536 : Index := 1536#32
  ![v610.toNat, 1536]
def k0_dev23 (d0 : Dev nD) : Nat :=
  let c0_i32_699 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_698 : BitVec 32 := 1#32
  let v620 : BitVec 32 := Scalar.muli v7 c1_i32_698
  let v621 : BitVec 32 := Scalar.addi c0_i32_699 v620
  v621.toNat
def k0_dev24 (d0 : Dev nD) : Nat :=
  let c0_i32_731 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_730 : BitVec 32 := 1#32
  let v646 : BitVec 32 := Scalar.muli v5 c1_i32_730
  let v647 : BitVec 32 := Scalar.addi c0_i32_731 v646
  v647.toNat
def k0_dev25 (d0 : Dev nD) : Nat :=
  let c0_i32_762 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_761 : BitVec 32 := 1#32
  let v671 : BitVec 32 := Scalar.muli v7 c1_i32_761
  let v672 : BitVec 32 := Scalar.addi c0_i32_762 v671
  v672.toNat
def k0_dev26 (d0 : Dev nD) : Nat :=
  let c0_i32_794 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_793 : BitVec 32 := 1#32
  let v697 : BitVec 32 := Scalar.muli v5 c1_i32_793
  let v698 : BitVec 32 := Scalar.addi c0_i32_794 v697
  v698.toNat
abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S2048x4096 : Shape := ⟨2, ![2048, 4096]⟩
abbrev S4096x2048 : Shape := ⟨2, ![4096, 2048]⟩
abbrev S2048x2048 : Shape := ⟨2, ![2048, 2048]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S2048x4096, .bf16⟩
  | .hbm, ⟨1, _⟩ => ⟨S4096x2048, .bf16⟩
  | .hbm, ⟨2, _⟩ => ⟨S2048x2048, .f32⟩
  | .hbm, ⟨3, _⟩ => ⟨S2048x2048, .bf16⟩
  | .hbm, ⟨4, _⟩ => ⟨S_, .bf16⟩
  | .hbm, ⟨5, _⟩ => ⟨S2048x2048, .bf16⟩
  | .hbm, ⟨6, _⟩ => ⟨S2048x2048, .bf16⟩
  | _, _ => ⟨S2048x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Proof.Ring.lean ====
/-
# The ring, its streams, and the values that travel on them

The four devices form a ring. Each device keeps four streams of transfers, named by `i : Fin 4`:
the streams 0 and 2 go to the right neighbour, 1 and 3 to the left one (`dir`); the streams 0 and 1
carry the first 512 columns of their half of the result, 2 and 3 the other 512 (`half`). A stream
makes six transfers, `n = 0 … 5`: the first three are the reduce-scatter, the last three the
all-gather. The transfer `n` of the stream `i` goes from the slot `srcSlot n` of the accumulator of
`dir i` on the sender to `down i` of it; it lands in the slot `n` of the communication buffer for
`n < 3` and in the accumulator slot `srcSlot (n - 3)` for the others.

This module has no separation logic: it names the neighbours, the memory pieces, the semaphores and
the value that each transfer carries.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic
public import Idealize.ShloMosaic.Lib.Memref
public import Idealize.ShloMosaic.Lib.MemrefSat
public import Idealize.ShloMosaic.Lib.ValueIdxCore

@[expose] public section

noncomputable section

namespace Cert.RingProof

open Cert.KernelIdeal Cert.KernelIdeal.Gen

open Idealize.ShloMosaic
open Idealize.ShloMosaic.TcCoe

variable {F : FTy → Type} [FloatOps F]

/-! ## Streams and neighbours -/

/-- The direction of a stream: 0 to the right, 1 to the left. -/
abbrev dir (i : Fin 4) : Fin 2 := ⟨i.val % 2, Nat.mod_lt _ (by decide)⟩
/-- The column half of a stream. -/
abbrev half (i : Fin 4) : Fin 2 := ⟨i.val / 2, by omega⟩

/-- The device `k` places to the right. -/
def shift (k : ℕ) (c : Dev nD) : Dev nD := ⟨(c.val + k) % 4, Nat.mod_lt _ (by decide)⟩

/-- Where the streams of direction `d` send to, and where they come from. -/
def toward (d : Fin 2) (c : Dev nD) : Dev nD := shift (1 + 2 * d.val) c
def from' (d : Fin 2) (c : Dev nD) : Dev nD := shift (3 - 2 * d.val) c

abbrev down (i : Fin 4) (c : Dev nD) : Dev nD := toward (dir i) c
abbrev up (i : Fin 4) (c : Dev nD) : Dev nD := from' (dir i) c

theorem from_toward : ∀ (d : Fin 2) (c : Dev nD), from' d (toward d c) = c := by decide
theorem toward_from : ∀ (d : Fin 2) (c : Dev nD), toward d (from' d c) = c := by decide
theorem toward_toward : ∀ (d : Fin 2) (c : Dev nD), toward d (toward d c) = from' d (from' d c) := by decide

/-- The ring as a permutation of the devices. -/
def ring (d : Fin 2) : Dev nD ≃ Dev nD := ⟨toward d, from' d, from_toward d, toward_from d⟩

/-! ## Memory pieces -/

/-- The two accumulators and the two communication buffers, by direction. -/
def acc : Fin 2 → Memref sig .tc .vmem S4x512x1024 .bf16
  | 0 => Memref.whole cc0_scratch0
  | 1 => Memref.whole cc0_scratch1
def comm : Fin 2 → Memref sig .tc .vmem S3x512x1024 .bf16
  | 0 => Memref.whole cc0_scratch2
  | 1 => Memref.whole cc0_scratch3

theorem acc_inb : ∀ (s : Fin 4) (h : Fin 2), ∀ a, (![s.val, 0, 512 * h.val] : Fin 3 → Nat) a + S1x512x512.size a ≤ S4x512x1024.size a := by decide
theorem comm_inb : ∀ (s : Fin 3) (h : Fin 2), ∀ a, (![s.val, 0, 512 * h.val] : Fin 3 → Nat) a + S1x512x512.size a ≤ S3x512x1024.size a := by decide
theorem slot_inb : ∀ (s : Fin 4), ∀ a, (![s.val, 0, 0] : Fin 3 → Nat) a + S1x512x1024.size a ≤ S4x512x1024.size a := by decide
theorem half_inb : ∀ (h : Fin 2), ∀ a, (![0, 0, 512 * h.val] : Fin 3 → Nat) a + S1x512x512.size a ≤ S1x512x1024.size a := by decide

/-- The piece of a slot that a stream uses, and the whole slot. -/
abbrev accR (s : Fin 4) (h : Fin 2) : Rect S4x512x1024 := Rect.unit (s := S4x512x1024) ![s.val, 0, 512 * h.val] S1x512x512.size (acc_inb s h)
abbrev commR (s : Fin 3) (h : Fin 2) : Rect S3x512x1024 := Rect.unit (s := S3x512x1024) ![s.val, 0, 512 * h.val] S1x512x512.size (comm_inb s h)
abbrev slotR (s : Fin 4) : Rect S4x512x1024 := Rect.unit (s := S4x512x1024) ![s.val, 0, 0] S1x512x1024.size (slot_inb s)
abbrev halfR (h : Fin 2) : Rect S1x512x1024 := Rect.unit (s := S1x512x1024) ![0, 0, 512 * h.val] S1x512x512.size (half_inb h)

abbrev accP (d : Fin 2) (s : Fin 4) (h : Fin 2) : Memref sig .tc .vmem S1x512x512 .bf16 := (acc d).slice (accR s h) (fun _ => rfl)
abbrev commP (d : Fin 2) (s : Fin 3) (h : Fin 2) : Memref sig .tc .vmem S1x512x512 .bf16 := (comm d).slice (commR s h) (fun _ => rfl)
abbrev accS (d : Fin 2) (s : Fin 4) : Memref sig .tc .vmem S1x512x1024 .bf16 := (acc d).slice (slotR s) (fun _ => rfl)

/-- A piece as a transfer names it: the leading axis of one dropped. -/
abbrev flat (M : Memref sig .tc .vmem S1x512x512 .bf16) : Memref sig .tc .vmem S512x512 .bf16 := M.squeeze S512x512 squeezes_S1x512x512_S512x512

/-- The accumulator slot that the transfer `n` reads. -/
def srcSlot : Fin 6 → Fin 4
  | 0 => 0 | 1 => 3 | 2 => 2 | 3 => 1 | 4 => 0 | 5 => 3

/-- The piece that the transfer `n` of stream `i` reads, and the one it writes. -/
abbrev srcP (i : Fin 4) (n : Fin 6) : Memref sig .tc .vmem S1x512x512 .bf16 := accP (dir i) (srcSlot n) (half i)
def dstP (i : Fin 4) : Fin 6 → Memref sig .tc .vmem S1x512x512 .bf16
  | 0 => commP (dir i) 0 (half i)
  | 1 => commP (dir i) 1 (half i)
  | 2 => commP (dir i) 2 (half i)
  | 3 => accP (dir i) 0 (half i)
  | 4 => accP (dir i) 3 (half i)
  | 5 => accP (dir i) 2 (half i)

/-! ## Semaphores -/

/-- The barrier semaphore, and the send and receive semaphores of a transfer. -/
abbrev barS : Sem sig := (SemArray.scalar (sig.barrier 0 rfl) : Sems sig S_).sem
/-- The transfer semaphores, numbered from 0. -/
def tsem (k : Fin 48) : DmaSem sig := ⟨3 + k.val, by show _ < 51; omega⟩
def sendK (i : Fin 4) (n : Fin 6) : Fin 48 := ⟨24 * (i.val % 2) + 6 * (i.val / 2) + n.val, by omega⟩
def recvK (i : Fin 4) (n : Fin 6) : Fin 48 := ⟨12 + 24 * (i.val % 2) + 6 * (i.val / 2) + n.val, by omega⟩
abbrev sendS (i : Fin 4) (n : Fin 6) : DmaSem sig := tsem (sendK i n)
abbrev recvS (i : Fin 4) (n : Fin 6) : DmaSem sig := tsem (recvK i n)

/-- What a transfer semaphore belongs to: its stream, its step, and whether it is a receive semaphore. -/
def streamOf (q : DmaSem sig) : Fin 4 := ⟨((q.val - 3) / 24) % 2 + 2 * (((q.val - 3) / 6) % 2), by omega⟩
def stepOf (q : DmaSem sig) : Fin 6 := ⟨(q.val - 3) % 6, Nat.mod_lt _ (by decide)⟩
def isRecv (q : DmaSem sig) : Bool := decide (3 ≤ q.val ∧ ((q.val - 3) / 12) % 2 = 1)
def isSend (q : DmaSem sig) : Bool := decide (3 ≤ q.val ∧ ((q.val - 3) / 12) % 2 = 0)

theorem recvS_facts : ∀ (i : Fin 4) (n : Fin 6), isRecv (recvS i n) = true ∧ isSend (recvS i n) = false ∧ streamOf (recvS i n) = i ∧ stepOf (recvS i n) = n := by decide
theorem sendS_facts : ∀ (i : Fin 4) (n : Fin 6), isRecv (sendS i n) = false ∧ isSend (sendS i n) = true ∧ streamOf (sendS i n) = i ∧ stepOf (sendS i n) = n := by decide

/-! ## Values -/

/-- The column of `B`'s block (and of the result) where the stream `i` starts. -/
abbrev col (i : Fin 4) : ℕ := 1024 * (dir i).val + 512 * (half i).val

theorem col_slices : ∀ i : Fin 4, S1024x2048.Slices ![0, col i] S1024x512 := by decide
theorem dir_slices : ∀ d : Fin 2, S1024x2048.Slices ![0, 1024 * d.val] S1024x1024 := by decide
theorem row_inb : ∀ k : Fin 4, ∀ a, (![512 * k.val, 0] : Fin 2 → Nat) a + S512x1024.size a ≤ S2048x1024.size a := by decide
theorem all_inb : ∀ a, (![0, 0] : Fin 2 → Nat) a + S1024x2048.size a ≤ S1024x2048.size a := by decide

/-- The rows of chunk `k` of a block of `A`. -/
abbrev rowR (k : Fin 4) : Rect S2048x1024 := Rect.unit (s := S2048x1024) ![512 * k.val, 0] S512x1024.size (row_inb k)
abbrev rows (k : Fin 4) (a : Vec F S2048x1024 .bf16) : Vec F S512x1024 .bf16 := fun j => a ((rowR k).emb j)

/-- The first product of stream `i`: a chunk of `A`'s rows times 512 columns of `B`. -/
def firstP (i : Fin 4) (b : Vec F S1024x2048 .bf16) (a : Vec F S512x1024 .bf16) : Vec F S1x512x512 .bf16 :=
  shapeCast S1x512x512
    (truncf .bf16 (matmul dot_S512x1024_S1024x512_S512x512_1_0_0_1_n_n none (k0_pay2 a)
      (extractStridedSlice S1024x512 ![0, col i] (k0_pay1 b) (col_slices i)) (constant S512x512 .f32 0x00000000#32)) bitsLt_bf16_f32)
    shapeCasts_S512x512_S1x512x512

/-- A chunk of `A`'s rows times the 1024 columns of a direction. -/
def slotP (d : Fin 2) (b : Vec F S1024x2048 .bf16) (a : Vec F S512x1024 .bf16) : Vec F S1x512x1024 .bf16 :=
  shapeCast S1x512x1024
    (truncf .bf16 (matmul dot_S512x1024_S1024x1024_S512x1024_1_0_0_1_n_n none (k0_pay2 a)
      (extractStridedSlice S1024x1024 ![0, 1024 * d.val] (k0_pay1 b) (dir_slices d)) (constant S512x1024 .f32 0x00000000#32)) bitsLt_bf16_f32)
    shapeCasts_S512x1024_S1x512x1024

/-- The half `h` of a slot. -/
abbrev halfV (h : Fin 2) (x : Vec F S1x512x1024 .bf16) : Vec F S1x512x512 .bf16 := fun j => x ((halfR h).emb j)

/-- One accumulation, and the final clamp at zero. -/
abbrev addP (a b : Vec F S1x512x512 .bf16) : Vec F S1x512x512 .bf16 := k0_pay9 a b
abbrev reluP (a : Vec F S1x512x512 .bf16) : Vec F S1x512x512 .bf16 := k0_pay28 a

/-- The chunk that the slot `s` of direction `d` accumulates on device `x`. -/
def chunk (d : Fin 2) (s : Fin 4) (x : Dev nD) : Fin 4 := shift (s.val + d.val * (2 * s.val)) x

section Run
variable (a : Dev nD → Vec F S2048x1024 .bf16) (b : Dev nD → Vec F S1024x2048 .bf16)

/-- What device `x` computes into the slot `s` of direction `d`. -/
def part (d : Fin 2) (s : Fin 4) (x : Dev nD) : Vec F S1x512x1024 .bf16 := slotP d (b x) (rows (chunk d s x) (a x))

/-- What the transfer `n` of stream `i` carries when device `x` sends it. -/
def val (i : Fin 4) : ℕ → Dev nD → Vec F S1x512x512 .bf16
  | 0, x => firstP i (b x) (rows x (a x))
  | 1, x => addP (halfV (half i) (part a b (dir i) 3 x)) (val i 0 (up i x))
  | 2, x => addP (halfV (half i) (part a b (dir i) 2 x)) (val i 1 (up i x))
  | 3, x => reluP (addP (halfV (half i) (part a b (dir i) 1 x)) (val i 2 (up i x)))
  | n + 4, x => val i (n + 3) (up i x)

/-- The finished piece of the result: rows of chunk `g`, columns of stream `i`. -/
def piece (g : Dev nD) (i : Fin 4) : Vec F S1x512x512 .bf16 := val a b i 3 (up i g)

/-- The whole result, the same on every device. -/
def result : S2048x2048.Idx → Elt F .bf16 := fun x =>
  piece a b ⟨(x 0).val / 512, by have h : (x 0).val < 2048 := (x 0).isLt; show _ < 4; omega⟩
    ⟨(x 1).val / 1024 + 2 * ((x 1).val / 512 % 2), by have h : (x 1).val < 2048 := (x 1).isLt; omega⟩
    (ValueIdx.ix3 (n0 := 1) (n1 := 512) (n2 := 512) ⟨0, by decide⟩ ⟨(x 0).val % 512, Nat.mod_lt _ (by decide)⟩ ⟨(x 1).val % 512, Nat.mod_lt _ (by decide)⟩)

end Run

end Cert.RingProof

end
-- ==== Proof.Pieces.lean ====
/-
# Owned pieces of a buffer, and the effects on them

A piece of a buffer is a unit slice of its memref; owning it at `X` is the library's `owns`. Here are
the rules for a load and a store of a piece, and for cutting a slot into its two halves.
-/
module

public import proofs.«01_k».proof.Proof.Ring
public import Idealize.ShloMosaic.Lib.Writes

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

abbrev 𝒱₀ : Variants := Variants.none

/-- A memref owned on the TensorCore of device `c`. -/
abbrev own (c : Dev nD) {s : Shape} (M : Memref sig .tc .vmem s .bf16) (q : PosShare TreeShare) (X : Vec F s .bf16) : sProp 𝕄 :=
  owns (c : Thread nD τ) M q X
/-- The same at whatever contents. -/
def some' (c : Dev nD) {s : Shape} (M : Memref sig .tc .vmem s .bf16) : sProp 𝕄 := ownsSat (c : Thread nD τ) M fullShare fun _ => True

omit [FloatOps F] in
instance own_storable (c : Dev nD) {s : Shape} (M : Memref sig .tc .vmem s .bf16) (q : PosShare TreeShare) (X : Vec F s .bf16) :
    BI.Storable (upEmb : UEmb _ 𝕄) (own c M q X) := owns_storable _ _ _ _
omit [FloatOps F] in
instance some_storable (c : Dev nD) {s : Shape} (M : Memref sig .tc .vmem s .bf16) : BI.Storable (upEmb : UEmb _ 𝕄) (some' (F := F) c M) := by
  unfold some'; infer_instance

omit [FloatOps F] in
theorem forget (c : Dev nD) {s : Shape} (M : Memref sig .tc .vmem s .bf16) (X : Vec F s .bf16) : (own c M fullShare X : sProp 𝕄) ⊢ some' c M := by
  exact ownsSat_intro _ _ _ trivial

/-! ## Loads and stores -/

section Effects
variable (c : Dev nD) {s : Shape} (M : Memref sig .tc .vmem s .bf16) (r : Rect s) (hr : ∀ a, r.stride a = 1)

/-- A load of an owned piece continues with its contents. -/
theorem load_piece {α : Type} {Q : α → sProp 𝕄} (q : PosShare TreeShare) (X : Vec F r.shape .bf16) {hl : M.view.LoadsAt r.toLoadRect}
    {k : Vec F r.shape .bf16 → Prog (TpuEff nD τ sig (Elt F) Λ₀ .tc) α} :
    (own c (M.slice r hr) q X : sProp 𝕄)
      ⊢ iprop((own c (M.slice r hr) q X -∗ wp frame (wpE (defs₀ (F := F)) 𝒱₀ (c : Thread nD τ) none) Set.univ (k X) Q)
          -∗ wp frame (wpE (defs₀ (F := F)) 𝒱₀ (c : Thread nD τ) none) Set.univ (.op (.load M r.toLoadRect hl) k) Q) := by
  iintro H Hk
  ihave H' := (show (own c (M.slice r hr) q X : sProp 𝕄)
      ⊢ iprop(∃ f, ⌜(M.view.slice r).read (Elt F) f = X⌝ ∗ ((M.access r).loc (c : Thread nD τ) ↦[(M.access r).set]{q} f)) from .rfl) $$ H
  icases H' with ⟨%f, %hf, H⟩
  iapply (wp_load_rect 𝒱₀ (c : Thread nD τ) none Set.univ (m := M) (r := r) (hl := hl) (Finset.Subset.refl _)) $$ H
  iintro H
  rw [show (M.access r).read (Elt F) f = X from hf]
  iapply Hk
  iapply (show iprop(∃ f, ⌜(M.view.slice r).read (Elt F) f = X⌝ ∗ ((M.access r).loc (c : Thread nD τ) ↦[(M.access r).set]{q} f))
      ⊢ (own c (M.slice r hr) q X : sProp 𝕄) from .rfl)
  iexists f
  isplitr; · ipureintro; exact hf
  iexact H

/-- A store over an owned piece leaves it at the stored value. -/
theorem store_piece {α : Type} {Q : α → sProp 𝕄} (w : Vec F r.shape .bf16) {hx : (M.access r).Stores Finset.univ} {hm : Finset.univ = Finset.univ ∨ ∀ a, r.stride a = 1}
    {k : PUnit → Prog (TpuEff nD τ sig (Elt F) Λ₀ .tc) α} :
    (some' (F := F) c (M.slice r hr) : sProp 𝕄)
      ⊢ iprop((own c (M.slice r hr) fullShare w -∗ wp frame (wpE (defs₀ (F := F)) 𝒱₀ (c : Thread nD τ) none) Set.univ (k ⟨⟩) Q)
          -∗ wp frame (wpE (defs₀ (F := F)) 𝒱₀ (c : Thread nD τ) none) Set.univ (.op (.store M r w Finset.univ hx hm) k) Q) := by
  unfold some'
  iintro H Hk
  ihave H := (ownsSat_any (c : Thread nD τ) (M.slice r hr) fullShare) $$ H
  icases H with ⟨%X, H⟩
  ihave H' := (show (own c (M.slice r hr) fullShare X : sProp 𝕄)
      ⊢ iprop(∃ f, ⌜(M.view.slice r).read (Elt F) f = X⌝ ∗ ((M.access r).loc (c : Thread nD τ) ↦[(M.access r).set]{fullShare} f)) from .rfl) $$ H
  icases H' with ⟨%f, %hf, H⟩
  iapply (wp_store 𝒱₀ (c : Thread nD τ) none Set.univ (m := M) (r := r) (Mk := Finset.univ) (hx := hx) (hm := hm)
    (show (M.access r).setOn Finset.univ ⊆ (M.access r).set from Finset.Subset.refl _)) $$ H
  iintro H
  iapply Hk
  iapply (show iprop(∃ f, ⌜(M.view.slice r).read (Elt F) f = w⌝ ∗ ((M.access r).loc (c : Thread nD τ) ↦[(M.access r).set]{fullShare} f))
      ⊢ (own c (M.slice r hr) fullShare w : sProp 𝕄) from .rfl)
  iexists (M.access r).write (Elt F) f w Finset.univ
  isplitr
  · ipureintro; exact View.read_write_univ _ _
  iexact H

end Effects

/-! ## Cutting a buffer into slots and halves -/

theorem half_disjoint (h h' : Fin 2) (hh : h ≠ h') : Disjoint (halfR h).set (halfR h').set := by
  refine Rect.unit_disjoint 2 ?_
  revert h h'; decide

theorem half_cover : (Finset.univ : Finset (Fin 2)).biUnion (fun h => (halfR h).set) = Finset.univ := by
  refine Finset.eq_univ_of_forall fun x => ?_
  have h2 : (x 2).val < 1024 := (x 2).isLt
  refine Finset.mem_biUnion.mpr ⟨⟨(x 2).val / 512, by omega⟩, Finset.mem_univ _, Rect.mem_set_unit.mpr ?_⟩
  intro a
  have h0 : (x 0).val < 1 := (x 0).isLt
  have h1 : (x 1).val < 512 := (x 1).isLt
  match a with
  | 0 => exact ⟨Nat.zero_le _, h0⟩
  | 1 => exact ⟨Nat.zero_le _, by show _ < 0 + 512; omega⟩
  | 2 => exact ⟨by show 512 * ((x 2).val / 512) ≤ (x 2).val; omega, by show (x 2).val < 512 * ((x 2).val / 512) + 512; omega⟩

theorem acc_disjoint (t t' : Fin 4 × Fin 2) (ht : t ≠ t') : Disjoint (accR t.1 t.2).set (accR t'.1 t'.2).set := by
  by_cases h1 : t.1 = t'.1
  · have h2 : t.2 ≠ t'.2 := fun h => ht (Prod.ext h1 h)
    refine Rect.unit_disjoint 2 ?_
    show 512 * t.2.val + 512 ≤ 512 * t'.2.val ∨ 512 * t'.2.val + 512 ≤ 512 * t.2.val
    omega
  · refine Rect.unit_disjoint 0 ?_
    show t.1.val + 1 ≤ t'.1.val ∨ t'.1.val + 1 ≤ t.1.val
    omega

theorem comm_disjoint (t t' : Fin 3 × Fin 2) (ht : t ≠ t') : Disjoint (commR t.1 t.2).set (commR t'.1 t'.2).set := by
  by_cases h1 : t.1 = t'.1
  · have h2 : t.2 ≠ t'.2 := fun h => ht (Prod.ext h1 h)
    refine Rect.unit_disjoint 2 ?_
    show 512 * t.2.val + 512 ≤ 512 * t'.2.val ∨ 512 * t'.2.val + 512 ≤ 512 * t.2.val
    omega
  · refine Rect.unit_disjoint 0 ?_
    show t.1.val + 1 ≤ t'.1.val ∨ t'.1.val + 1 ≤ t.1.val
    omega

theorem acc_cover : (Finset.univ : Finset (Fin 4 × Fin 2)).biUnion (fun t => (accR t.1 t.2).set) = Finset.univ := by
  refine Finset.eq_univ_of_forall fun x => ?_
  have h0 : (x 0).val < 4 := (x 0).isLt
  have h1 : (x 1).val < 512 := (x 1).isLt
  have h2 : (x 2).val < 1024 := (x 2).isLt
  refine Finset.mem_biUnion.mpr ⟨(⟨(x 0).val, h0⟩, ⟨(x 2).val / 512, by omega⟩), Finset.mem_univ _, Rect.mem_set_unit.mpr ?_⟩
  intro a
  match a with
  | 0 => exact ⟨le_refl _, by show (x 0).val < (x 0).val + 1; omega⟩
  | 1 => exact ⟨Nat.zero_le _, by show _ < 0 + 512; omega⟩
  | 2 => exact ⟨by show 512 * ((x 2).val / 512) ≤ (x 2).val; omega, by show (x 2).val < 512 * ((x 2).val / 512) + 512; omega⟩

theorem comm_cover : (Finset.univ : Finset (Fin 3 × Fin 2)).biUnion (fun t => (commR t.1 t.2).set) = Finset.univ := by
  refine Finset.eq_univ_of_forall fun x => ?_
  have h0 : (x 0).val < 3 := (x 0).isLt
  have h1 : (x 1).val < 512 := (x 1).isLt
  have h2 : (x 2).val < 1024 := (x 2).isLt
  refine Finset.mem_biUnion.mpr ⟨(⟨(x 0).val, h0⟩, ⟨(x 2).val / 512, by omega⟩), Finset.mem_univ _, Rect.mem_set_unit.mpr ?_⟩
  intro a
  match a with
  | 0 => exact ⟨le_refl _, by show (x 0).val < (x 0).val + 1; omega⟩
  | 1 => exact ⟨Nat.zero_le _, by show _ < 0 + 512; omega⟩
  | 2 => exact ⟨by show 512 * ((x 2).val / 512) ≤ (x 2).val; omega, by show (x 2).val < 512 * ((x 2).val / 512) + 512; omega⟩

/-- A half of a slot is a piece of the accumulator. -/
theorem half_emb (d : Fin 2) (s : Fin 4) (h : Fin 2) (x : S1x512x512.Idx) :
    ((accS d s).slice (halfR h) (fun _ => rfl)).view.emb x = (accP d s h).view.emb x := by
  have he : (slotR s).emb ((halfR h).emb x) = (accR s h).emb x := by
    funext a
    refine Fin.ext ?_
    match a with
    | 0 => show s.val + 1 * (0 + 1 * (x 0).val) = s.val + 1 * (x 0).val; omega
    | 1 => show 0 + 1 * (0 + 1 * (x 1).val) = 0 + 1 * (x 1).val; omega
    | 2 => show 0 + 1 * (512 * h.val + 1 * (x 2).val) = 512 * h.val + 1 * (x 2).val; omega
  show (acc d).view.emb ((slotR s).emb ((halfR h).emb x)) = (acc d).view.emb ((accR s h).emb x)
  rw [he]

theorem half_of_slot (c : Dev nD) (d : Fin 2) (s : Fin 4) (h : Fin 2) (q : PosShare TreeShare) (Y : Vec F S1x512x512 .bf16) :
    (own c ((accS d s).slice (halfR h) (fun _ => rfl)) q Y : sProp 𝕄) = own c (accP d s h) q Y := by
  have hset : ((accS d s).slice (halfR h) (fun _ => rfl)).view.set = (accP d s h).view.set := by
    unfold View.set
    rw [show ((accS d s).slice (halfR h) (fun _ => rfl)).view.emb = (accP d s h).view.emb from Function.Embedding.ext (half_emb d s h)]
  have hread : ∀ f : (acc d).view.ty.Contents (Elt F), ((accS d s).slice (halfR h) (fun _ => rfl)).view.read (Elt F) f = (accP d s h).view.read (Elt F) f := by
    intro f; funext x
    unfold View.read
    rw [half_emb]
  unfold own owns
  rw [hset]
  exact congrArg _ (funext fun f => by rw [hread f])

/-- Whole accumulator and communication buffers are their pieces. -/
theorem acc_pieces (c : Dev nD) (d : Fin 2) :
    (some' (F := F) c (acc d) : sProp 𝕄) ⊣⊢ BI.bigSep (Finset.univ : Finset (Fin 4 × Fin 2)) fun t => some' (F := F) c (accP d t.1 t.2) := by
  unfold some'
  constructor
  · exact (ownsSat_mono _ _ _ fun X _ t => trivial).trans (ownsSat_rects (c : Thread nD τ) (acc d) fullShare (fun t : Fin 4 × Fin 2 => accR t.1 t.2) (fun _ _ => rfl) acc_disjoint acc_cover (Ψ := fun _ _ => True))
  · exact (ownsSat_of_rects (c : Thread nD τ) (acc d) fullShare (fun t : Fin 4 × Fin 2 => accR t.1 t.2) (fun _ _ => rfl) acc_disjoint acc_cover (Ψ := fun _ _ => True)).trans (ownsSat_mono _ _ _ fun X _ => trivial)

theorem comm_pieces (c : Dev nD) (d : Fin 2) :
    (some' (F := F) c (comm d) : sProp 𝕄) ⊣⊢ BI.bigSep (Finset.univ : Finset (Fin 3 × Fin 2)) fun t => some' (F := F) c (commP d t.1 t.2) := by
  unfold some'
  constructor
  · exact (ownsSat_mono _ _ _ fun X _ t => trivial).trans (ownsSat_rects (c : Thread nD τ) (comm d) fullShare (fun t : Fin 3 × Fin 2 => commR t.1 t.2) (fun _ _ => rfl) comm_disjoint comm_cover (Ψ := fun _ _ => True))
  · exact (ownsSat_of_rects (c : Thread nD τ) (comm d) fullShare (fun t : Fin 3 × Fin 2 => commR t.1 t.2) (fun _ _ => rfl) comm_disjoint comm_cover (Ψ := fun _ _ => True)).trans (ownsSat_mono _ _ _ fun X _ => trivial)

/-- A slot is its two halves, -/
theorem slot_halves (c : Dev nD) (d : Fin 2) (s : Fin 4) (q : PosShare TreeShare) (X : Vec F S1x512x1024 .bf16) :
    (own c (accS d s) q X : sProp 𝕄) ⊣⊢ iprop(own c (accP d s 0) q (halfV 0 X) ∗ own c (accP d s 1) q (halfV 1 X)) := by
  have key : (own c (accS d s) q X : sProp 𝕄) ⊣⊢ BI.bigSep (Finset.univ : Finset (Fin 2)) fun h => own c (accP d s h) q (halfV h X) := by
    rw [BI.bigSep_congr fun (h : Fin 2) _ => (half_of_slot c d s h q (halfV h X)).symm]
    exact ⟨owns_rects (c : Thread nD τ) (accS d s) q halfR (fun _ _ => rfl) half_disjoint half_cover X,
      owns_of_rects (c : Thread nD τ) (accS d s) q halfR (fun _ _ => rfl) half_disjoint half_cover X⟩
  rw [BI.bigSep_fin_two] at key
  exact key

/-- whatever it holds. -/
theorem slot_some (c : Dev nD) (d : Fin 2) (s : Fin 4) :
    (some' (F := F) c (accS d s) : sProp 𝕄) ⊣⊢ iprop(some' (F := F) c (accP d s 0) ∗ some' (F := F) c (accP d s 1)) := by
  constructor
  · refine (show some' c (accS d s) ⊢ iprop(∃ X, own c (accS d s) fullShare X) from ownsSat_any _ _ _).trans ?_
    iintro ⟨%X, H⟩
    ihave H := (slot_halves c d s fullShare X).1 $$ H
    icases H with ⟨H0, H1⟩
    isplitl [H0]
    · iapply (forget c (accP d s 0) (halfV 0 X)) $$ H0
    · iapply (forget c (accP d s 1) (halfV 1 X)) $$ H1
  · have h2 := ownsSat_of_rects (Ix := Unit) (Name := ℕ) (U := UU) (Lvl := ℕ) (Val := Elt F) (c : Thread nD τ) (accS d s) fullShare halfR (fun _ _ => rfl) half_disjoint half_cover (Ψ := fun _ _ => True)
    rw [show ∀ Φ : Fin 2 → sProp 𝕄, BI.bigSep Finset.univ Φ = iprop(Φ 0 ∗ Φ 1) from BI.bigSep_fin_two] at h2
    refine BIBase.Entails.trans ?_ (h2.trans (ownsSat_mono _ _ _ fun X _ => trivial))
    unfold some'
    refine (BIClass.sep_mono (ownsSat_any _ _ _) (ownsSat_any _ _ _)).trans ?_
    iintro ⟨⟨%X, HX⟩, ⟨%Y, HY⟩⟩
    isplitl [HX]
    · iapply (ownsSat_intro (Φ := fun _ => True) (c : Thread nD τ) ((accS d s).slice (halfR 0) (fun _ => rfl)) fullShare (X := X) trivial)
      iapply (Entails.of_eq (half_of_slot c d s 0 fullShare X).symm) $$ HX
    · iapply (ownsSat_intro (Φ := fun _ => True) (c : Thread nD τ) ((accS d s).slice (halfR 1) (fun _ => rfl)) fullShare (X := Y) trivial)
      iapply (Entails.of_eq (half_of_slot c d s 1 fullShare Y).symm) $$ HY

/-- Two halves side by side. -/
def glue (x y : Vec F S1x512x512 .bf16) : Vec F S1x512x1024 .bf16 := fun j =>
  if h : (j 2).val < 512 then x (ValueIdx.ix3 (n0 := 1) (n1 := 512) (n2 := 512) (j 0) (j 1) ⟨(j 2).val, h⟩)
  else y (ValueIdx.ix3 (n0 := 1) (n1 := 512) (n2 := 512) (j 0) (j 1) ⟨(j 2).val - 512, by have h2 : (j 2).val < 1024 := (j 2).isLt; omega⟩)

theorem half_idx (j : S1x512x512.Idx) (h : Fin 2) (a : Fin 3) : ((halfR h).emb j a).val = (![0, 0, 512 * h.val] : Fin 3 → ℕ) a + 1 * (j a).val := rfl
theorem half_idx_col (j : S1x512x512.Idx) (h : Fin 2) : ((halfR h).emb j 2).val = 512 * h.val + (j 2).val := by
  rw [half_idx, Nat.one_mul]; rfl

theorem halfV_glue0 (x y : Vec F S1x512x512 .bf16) : halfV 0 (glue x y) = x := by
  funext j
  have h2 : ((halfR 0).emb j 2).val < 512 := by rw [half_idx_col]; have hj : (j 2).val < 512 := (j 2).isLt; simpa using hj
  unfold halfV glue
  rw [dif_pos h2]
  congr 1
  funext a
  refine Fin.ext ?_
  match a with
  | 0 => show ((halfR 0).emb j 0).val = (j 0).val; rw [half_idx, Nat.one_mul]; exact Nat.zero_add _
  | 1 => show ((halfR 0).emb j 1).val = (j 1).val; rw [half_idx, Nat.one_mul]; exact Nat.zero_add _
  | 2 => show ((halfR 0).emb j 2).val = (j 2).val; rw [half_idx, Nat.one_mul]; exact Nat.zero_add _

theorem halfV_glue1 (x y : Vec F S1x512x512 .bf16) : halfV 1 (glue x y) = y := by
  funext j
  have e2 : ((halfR 1).emb j 2).val = 512 + (j 2).val := half_idx_col j 1
  unfold halfV glue
  rw [dif_neg (by omega)]
  congr 1
  funext a
  refine Fin.ext ?_
  match a with
  | 0 => show ((halfR 1).emb j 0).val = (j 0).val; rw [half_idx, Nat.one_mul]; exact Nat.zero_add _
  | 1 => show ((halfR 1).emb j 1).val = (j 1).val; rw [half_idx, Nat.one_mul]; exact Nat.zero_add _
  | 2 => show ((halfR 1).emb j 2).val - 512 = (j 2).val; omega

/-! ## A transfer's landing -/

omit [FloatOps F] in
/-- What a transfer of a flat piece leaves in the piece it writes: what the piece it reads holds. -/
theorem landed (src dst : Memref sig .tc .vmem S1x512x512 .bf16) (fd : dst.view.ty.Contents (Elt F)) (fs : src.view.ty.Contents (Elt F)) :
    dst.view.read (Elt F) ((flat dst).view.write (Elt F) fd ((flat src).view.read (Elt F) fs) Finset.univ) = src.view.read (Elt F) fs := by
  show dst.view.read (Elt F) ((dst.view.reshape S512x512 squeezes_S1x512x512_S512x512.numel_eq).write (Elt F) fd
    ((src.view.reshape S512x512 squeezes_S1x512x512_S512x512.numel_eq).read (Elt F) fs) Finset.univ) = _
  rw [View.write_reshape_univ, View.read_write_univ]
  funext x
  show src.view.read (Elt F) fs (Shape.reshapeEquiv _ ((Shape.reshapeEquiv _).symm x)) = _
  rw [Equiv.apply_symm_apply]

/-- The bytes that one transfer counts. -/
abbrev N : ℕ := (flat (accP 0 0 0)).view.dmaCredit
theorem N_pos : 0 < N := View.dmaCredit_pos _ (by decide)

end Cert.RingProof

end
-- ==== Proof.Protocol.lean ====
/-
# The protocol

Every semaphore cell has one round. A device's barrier cell expects one unit from each neighbour: the
neighbour hands over its landing buffers for the streams that come from here. A receive cell expects
one transfer: its payload is the landed piece and the pieces of other devices that travel along with
it (`trav`). A send cell expects its own transfer's completion: it gives back the share of the source
that was lent, or nothing where the source itself travels on.

A piece that a stream has read travels to where it is written next. In the first three steps the slot
`srcSlot n` moves one device down with the transfer and is overwritten three steps later by the
all-gather, from the device that then holds it: `pass n x` are the pieces of devices upstream that
device `x` holds before its step `n`, `rest n x` the landing buffers downstream it has not used yet.
-/
module

public import proofs.«01_k».proof.Proof.Pieces

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Cells -/

abbrev barCell (c : Dev nD) : GSem nD τ sig := ((c : Thread nD τ), .reg barS)
abbrev sendCell (i : Fin 4) (n : Fin 6) (c : Dev nD) : GSem nD τ sig := ((c : Thread nD τ), .dma (sendS i n))
abbrev recvCell (i : Fin 4) (n : Fin 6) (c : Dev nD) : GSem nD τ sig := ((c : Thread nD τ), .dma (recvS i n))

/-! ## What travels -/

section Travel
variable (i : Fin 4)

/-- The landing piece of step `n` on the device below `x`; the source piece of step `n` on `x`. -/
abbrev dn (n : Fin 6) (x : Dev nD) : sProp 𝕄 := some' (F := F) (down i x) (dstP i n)
abbrev sp (n : Fin 6) (x : Dev nD) : sProp 𝕄 := some' (F := F) x (srcP i n)

/-- The landing buffers downstream not used before step `n + 1`. -/
def rest (n : ℕ) (x : Dev nD) : sProp 𝕄 := match n with
  | 0 => iprop(dn (F := F) i 1 x ∗ dn (F := F) i 2 x)
  | 1 => dn (F := F) i 2 x
  | _ => iprop(emp)

/-- The upstream pieces that `x` holds before its step `n`. -/
def pass (n : ℕ) (x : Dev nD) : sProp 𝕄 := match n with
  | 1 => sp (F := F) i 0 (up i x)
  | 2 => iprop(sp (F := F) i 1 (up i x) ∗ sp (F := F) i 0 (up i (up i x)))
  | 3 => iprop(sp (F := F) i 2 (up i x) ∗ sp (F := F) i 1 (up i (up i x)))
  | 4 => sp (F := F) i 2 (up i (up i x))
  | _ => iprop(emp)

/-- What comes to `x` with the transfer `n`, besides the landed piece. -/
def trav (n : ℕ) (x : Dev nD) : sProp 𝕄 := match n with
  | 0 => pass (F := F) i 1 x
  | 1 => pass (F := F) i 2 x
  | 2 => iprop(dn (F := F) i 3 x ∗ pass (F := F) i 3 x)
  | 3 => iprop(dn (F := F) i 4 x ∗ pass (F := F) i 4 x)
  | 4 => iprop(dn (F := F) i 5 x ∗ pass (F := F) i 5 x)
  | _ => iprop(emp)

/-- What `x` holds of other devices before its step `n`. -/
def hold (n : ℕ) (x : Dev nD) : sProp 𝕄 :=
  if h : n < 6 then iprop(dn (F := F) i ⟨n, h⟩ x ∗ pass (F := F) i n x ∗ rest (F := F) i n x) else iprop(emp)

instance rest_storable (n : ℕ) (x : Dev nD) : BI.Storable (upEmb : UEmb _ 𝕄) (rest (F := F) i n x) := by
  unfold rest; split <;> infer_instance
instance pass_storable (n : ℕ) (x : Dev nD) : BI.Storable (upEmb : UEmb _ 𝕄) (pass (F := F) i n x) := by
  unfold pass; split <;> infer_instance
instance trav_storable (n : ℕ) (x : Dev nD) : BI.Storable (upEmb : UEmb _ 𝕄) (trav (F := F) i n x) := by
  unfold trav; split <;> infer_instance

omit [FloatOps F] in
/-- In the first three steps the source and what was held travel on, -/
theorem travel_lo (n : Fin 6) (hn : n.val < 3) (x : Dev nD) :
    iprop(sp (F := F) i n x ∗ pass (F := F) i n.val x) ⊢ (trav (F := F) i n.val (down i x) : sProp 𝕄) := by
  have h1 : up i (down i x) = x := from_toward _ _
  have h2 : down i (down i x) = up i (up i x) := toward_toward _ _
  match n, hn with
  | 0, _ =>
    show iprop(sp (F := F) i 0 x ∗ emp) ⊢ sp (F := F) i 0 (up i (down i x))
    rw [h1]; iintro ⟨H, -⟩; iexact H
  | 1, _ =>
    show iprop(sp (F := F) i 1 x ∗ sp (F := F) i 0 (up i x)) ⊢ iprop(sp (F := F) i 1 (up i (down i x)) ∗ sp (F := F) i 0 (up i (up i (down i x))))
    rw [h1]
  | 2, _ =>
    show iprop(sp (F := F) i 2 x ∗ sp (F := F) i 1 (up i x) ∗ sp (F := F) i 0 (up i (up i x)))
      ⊢ iprop(some' (F := F) (down i (down i x)) (dstP i 3) ∗ sp (F := F) i 2 (up i (down i x)) ∗ sp (F := F) i 1 (up i (up i (down i x))))
    rw [h1, h2]
    iintro ⟨H, H1, H0⟩
    isplitl [H0]; · iexact H0
    isplitl [H]; · iexact H
    iexact H1

omit [FloatOps F] in
/-- in the last three only what was held. -/
theorem travel_hi (n : Fin 6) (hn : 3 ≤ n.val) (x : Dev nD) :
    (pass (F := F) i n.val x : sProp 𝕄) ⊢ trav (F := F) i n.val (down i x) := by
  have h1 : up i (down i x) = x := from_toward _ _
  have h2 : down i (down i x) = up i (up i x) := toward_toward _ _
  match n, hn with
  | 3, _ =>
    show iprop(sp (F := F) i 2 (up i x) ∗ sp (F := F) i 1 (up i (up i x)))
      ⊢ iprop(some' (F := F) (down i (down i x)) (dstP i 4) ∗ sp (F := F) i 2 (up i (up i (down i x))))
    rw [h1, h2]
    iintro ⟨H, H1⟩
    isplitl [H1]; · iexact H1
    iexact H
  | 4, _ =>
    show sp (F := F) i 2 (up i (up i x)) ⊢ iprop(some' (F := F) (down i (down i x)) (dstP i 5) ∗ emp)
    rw [h2]
    iintro H
    isplitl [H]; · iexact H
    iempintro
  | 5, _ => exact BI.Entails.refl _

omit [FloatOps F] in
theorem late (n : Fin 6) (x : Dev nD) :
    iprop(emp ∗ dn (F := F) i n x ∗ pass (F := F) i n.val x) ⊢ (iprop(dn (F := F) i n x ∗ pass (F := F) i n.val x ∗ emp) : sProp 𝕄) := by
  iintro ⟨-, H1, HP⟩
  isplitl [H1]; · iexact H1
  isplitl [HP]; · iexact HP
  iempintro

omit [FloatOps F] in
/-- What arrives with the transfer `n`, and what was left, is what step `n + 1` starts from. -/
theorem arrive (n : Fin 6) (x : Dev nD) :
    iprop(rest (F := F) i n.val x ∗ trav (F := F) i n.val x) ⊢ (hold (F := F) i (n.val + 1) x : sProp 𝕄) := by
  unfold hold
  match n with
  | 0 =>
    rw [dif_pos (by decide)]
    show iprop((dn (F := F) i 1 x ∗ dn (F := F) i 2 x) ∗ pass (F := F) i 1 x) ⊢ iprop(dn (F := F) i 1 x ∗ pass (F := F) i 1 x ∗ dn (F := F) i 2 x)
    iintro ⟨⟨H1, H2⟩, HP⟩
    isplitl [H1]; · iexact H1
    isplitl [HP] <;> iassumption
  | 1 =>
    rw [dif_pos (by decide)]
    show iprop(dn (F := F) i 2 x ∗ pass (F := F) i 2 x) ⊢ iprop(dn (F := F) i 2 x ∗ pass (F := F) i 2 x ∗ emp)
    iintro ⟨H1, HP⟩
    isplitl [H1]; · iexact H1
    isplitl [HP]; · iexact HP
    iempintro
  | 2 => rw [dif_pos (by decide)]; exact late i 3 x
  | 3 => rw [dif_pos (by decide)]; exact late i 4 x
  | 4 => rw [dif_pos (by decide)]; exact late i 5 x
  | 5 => rw [dif_neg (by decide)]; iintro -; iempintro

omit [FloatOps F] in
/-- A landing buffer's pieces for a stream are what its first step starts from. -/
theorem hold_zero (x : Dev nD) :
    iprop(dn (F := F) i 0 x ∗ dn (F := F) i 1 x ∗ dn (F := F) i 2 x) ⊢ (hold (F := F) i 0 x : sProp 𝕄) := by
  unfold hold; rw [dif_pos (by decide)]; unfold pass rest
  iintro ⟨H0, H12⟩
  isplitl [H0]; · iexact H0
  isplitr; · iempintro
  iexact H12

end Travel

/-! ## The schedule -/

section Sched
variable (a : Dev nD → Vec F S2048x1024 .bf16) (b : Dev nD → Vec F S1024x2048 .bf16)

/-- The neighbour that pays the duty `d` of a barrier cell, and what it hands over. -/
abbrev payDir (d : Bool) : Fin 2 := if d then 1 else 0
def barPay (x : Dev nD) (d : Bool) : sProp 𝕄 := some' (F := F) (toward (payDir d) x) (comm (payDir d))

def recvPay (i : Fin 4) (n : Fin 6) (x : Dev nD) : sProp 𝕄 :=
  iprop(own x (dstP i n) fullShare (val a b i n.val (up i x)) ∗ trav (F := F) i n.val x)
def sendPay (i : Fin 4) (n : Fin 6) (x : Dev nD) : sProp 𝕄 :=
  if n.val < 3 then iprop(emp) else own x (srcP i n) fullShare.right (val a b i n.val x)

instance barPay_storable (x : Dev nD) (d : Bool) : BI.Storable (upEmb : UEmb _ 𝕄) (barPay (F := F) x d) := by unfold barPay; infer_instance
instance recvPay_storable (i : Fin 4) (n : Fin 6) (x : Dev nD) : BI.Storable (upEmb : UEmb _ 𝕄) (recvPay a b i n x) := by unfold recvPay; infer_instance
instance sendPay_storable (i : Fin 4) (n : Fin 6) (x : Dev nD) : BI.Storable (upEmb : UEmb _ 𝕄) (sendPay a b i n x) := by
  unfold sendPay; split <;> infer_instance

def payOf (x : Dev nD) (sm : SemLoc sig) (d : Bool) : sProp 𝕄 := match sm with
  | .reg _ => barPay (F := F) x d
  | .dma q => if isRecv q then recvPay a b (streamOf q) (stepOf q) x else if isSend q then sendPay a b (streamOf q) (stepOf q) x else iprop(emp)
def dutyOf (sm : SemLoc sig) : Finset Bool := match sm with
  | .reg _ => Finset.univ
  | .dma q => if 3 ≤ q.val then {false} else ∅
def unitsOf (sm : SemLoc sig) : ℕ := match sm with
  | .reg _ => 1
  | .dma _ => N

/-- One round, the round 0. -/
def Rd : Rounds.Schedule (GSem nD τ sig) Bool 𝕄 where
  duties g r := if r = 0 ∧ g.1.2 = .tc then dutyOf g.2 else ∅
  unitless _ := False
  amount g _ _ := unitsOf g.2
  payload g _ d := payOf a b g.1.1 g.2 d
  amount_pos g _ _ _ := by
    show 0 < unitsOf g.2
    unfold unitsOf; split
    · exact Nat.one_pos
    · exact N_pos

instance Rd_payload_storable (g : GSem nD τ sig) (r : ℕ) (d : Bool) : BI.Storable (upEmb : UEmb _ 𝕄) ((Rd a b).payload g r d) := by
  show BI.Storable upEmb (payOf a b g.1.1 g.2 d)
  unfold payOf
  (repeat' split) <;> infer_instance

variable (i : Fin 4) (n : Fin 6) (c : Dev nD)

theorem duties_bar : (Rd a b).duties (barCell c) 0 = Finset.univ := by dsimp only [Rd]; exact if_pos ⟨rfl, rfl⟩
theorem duties_dma (k : Fin 48) : (Rd a b).duties ((c : Thread nD τ), .dma (tsem k)) 0 = {false} := by
  dsimp only [Rd]; rw [if_pos ⟨rfl, rfl⟩]; exact if_pos (Nat.le_add_right 3 k.val)
theorem duties_later (g : GSem nD τ sig) : ∀ r, 1 ≤ r → (Rd a b).duties g r = ∅ :=
  fun r hr => by dsimp only [Rd]; rw [if_neg fun h => by omega]

theorem amount_bar (d : Bool) : (Rd a b).amount (barCell c) 0 d = 1 := rfl
theorem amount_dma (q : DmaSem sig) (d : Bool) : (Rd a b).amount ((c : Thread nD τ), .dma q) 0 d = N := rfl

theorem expect_bar : (Rd a b).expect (barCell c) 0 = 2 := by
  unfold Schedule.expect Schedule.amountOf
  rw [duties_bar, Finset.sum_congr rfl fun d _ => amount_bar a b c d, Finset.sum_const, Finset.card_univ, Fintype.card_bool, smul_eq_mul]
theorem expect_dma (k : Fin 48) : (Rd a b).expect ((c : Thread nD τ), .dma (tsem k)) 0 = N := by
  unfold Schedule.expect Schedule.amountOf; rw [duties_dma, Finset.sum_singleton, amount_dma]

theorem payload_bar (d : Bool) : (Rd a b).payload (barCell c) 0 d = barPay c d := rfl
theorem payload_send (d : Bool) : (Rd a b).payload (sendCell i n c) 0 d = sendPay a b i n c := by
  obtain ⟨h1, h2, h3, h4⟩ := sendS_facts i n
  show payOf a b c (.dma (sendS i n)) d = _
  dsimp only [payOf]
  rw [h1, h2, h3, h4, if_neg Bool.false_ne_true, if_pos rfl]
theorem payload_recv (d : Bool) : (Rd a b).payload (recvCell i n c) 0 d = recvPay a b i n c := by
  obtain ⟨h1, h2, h3, h4⟩ := recvS_facts i n
  show payOf a b c (.dma (recvS i n)) d = _
  dsimp only [payOf]
  rw [h1, h3, h4, if_pos rfl]

/-- The rest of a cell's round when no duty is taken yet. -/
theorem rest_bar : bigSep ((Rd a b).duties (barCell c) 0 \ ∅) (fun d => (Rd a b).payload (barCell c) 0 d) = iprop(barPay c false ∗ barPay c true) := by
  rw [Finset.sdiff_empty, duties_bar, bigSep_univ_eq_bigSepL [false, true] (by decide) (by decide), bigSepL_cons_cons, bigSepL_singleton,
    payload_bar, payload_bar]
  rfl
theorem rest_send : bigSep ((Rd a b).duties (sendCell i n c) 0 \ ∅) (fun d => (Rd a b).payload (sendCell i n c) 0 d) = sendPay a b i n c := by
  rw [Finset.sdiff_empty, duties_dma, bigSep_singleton, payload_send]
theorem rest_recv : bigSep ((Rd a b).duties (recvCell i n c) 0 \ ∅) (fun d => (Rd a b).payload (recvCell i n c) 0 d) = recvPay a b i n c := by
  rw [Finset.sdiff_empty, duties_dma, bigSep_singleton, payload_recv]

end Sched

/-! ## What a device owes; the levels -/

/-- The stream and the step of the `k`-th transfer, in program order. -/
def st (k : ℕ) : Fin 4 := ⟨k % 4, Nat.mod_lt _ (by decide)⟩
def sn (k : ℕ) : Fin 6 := ⟨k / 4 % 6, Nat.mod_lt _ (by decide)⟩

theorem st_mk (i : Fin 4) (n : Fin 6) : st (4 * n.val + i.val) = i := Fin.ext (by show (4 * n.val + i.val) % 4 = i.val; omega)
theorem sn_mk (i : Fin 4) (n : Fin 6) : sn (4 * n.val + i.val) = n := Fin.ext (by show (4 * n.val + i.val) / 4 % 6 = n.val; omega)

/-- The receive credit that `c` owes once `j` transfers are started. -/
def owe (c : Dev nD) (j : ℕ) : CellTallies nD τ sig Unit :=
  ∑ k ∈ Finset.Ico j 24, tallyAt (recvCell (st k) (sn k) (down (st k) c)) () N

theorem owe_step (c : Dev nD) (i : Fin 4) (n : Fin 6) :
    owe c (4 * n.val + i.val) = owe c (4 * n.val + i.val + 1) + tallyAt (recvCell i n (down i c)) () N := by
  unfold owe
  have h : Finset.Ico (4 * n.val + i.val) 24 = insert (4 * n.val + i.val) (Finset.Ico (4 * n.val + i.val + 1) 24) := by
    ext k; rw [Finset.mem_insert, Finset.mem_Ico, Finset.mem_Ico]; omega
  rw [h, Finset.sum_insert (by rw [Finset.mem_Ico]; omega), st_mk, sn_mk, add_comm]
theorem owe_done (c : Dev nD) : owe c 24 = 0 := by unfold owe; rw [Finset.Ico_self, Finset.sum_empty]

/-- At launch: all transfers, and a unit to both neighbours; the first signal peels the last summand. -/
def O₁ (c : Dev nD) : CellTallies nD τ sig Unit := owe c 0 + tallyAt (barCell (toward 0 c)) () 1
def O₀ (c : Dev nD) : CellTallies nD τ sig Unit := O₁ c + tallyAt (barCell (toward 1 c)) () 1

def L (g : GSem nD τ sig) : Finset Unit := if g.1.2 = .tc then {()} else ∅
/-- Barrier cells at 1, the receive cells of step `n` at `n + 2`, everything else at 0. -/
def lv (g : GSem nD τ sig) (_ : Unit) : ℕ := match g.2 with
  | .reg _ => 1
  | .dma q => if isRecv q then (stepOf q).val + 2 else 0

theorem L_of_ne (g : GSem nD τ sig) (h : g.1.2 ≠ .tc) : L g = ∅ := if_neg h
theorem L_tc (c : Dev nD) (sm : SemLoc sig) : L ((c : Thread nD τ), sm) = {()} := if_pos rfl
theorem lv_recv (i : Fin 4) (n : Fin 6) (c : Dev nD) (u : Unit) : lv (recvCell i n c) u = n.val + 2 := by
  obtain ⟨h1, h2, h3, h4⟩ := recvS_facts i n
  show (if isRecv (recvS i n) then (stepOf (recvS i n)).val + 2 else 0) = _
  rw [h1, h4, if_pos rfl]

theorem tally_pos {g g' : GSem nD τ sig} {u : Unit} {k : ℕ} (h : 0 < (tallyAt g () k : CellTallies nD τ sig Unit) g' u) : g' = g := by
  rw [tallyAt_apply] at h
  by_contra hn
  rw [if_neg fun h' => hn h'.1] at h
  exact Nat.lt_irrefl 0 h

theorem owe_pos {c : Dev nD} {j : ℕ} {g : GSem nD τ sig} {u : Unit} (h : 0 < owe c j g u) :
    ∃ k, j ≤ k ∧ k < 24 ∧ g = recvCell (st k) (sn k) (down (st k) c) := by
  unfold owe at h
  rw [Finset.sum_apply, Finsupp.finset_sum_apply] at h
  obtain ⟨k, hk, hp⟩ := Finset.exists_ne_zero_of_sum_ne_zero (Nat.pos_iff_ne_zero.mp h)
  rw [Finset.mem_Ico] at hk
  exact ⟨k, hk.1, hk.2, tally_pos (Nat.pos_iff_ne_zero.mpr hp)⟩

theorem O₀_pos {c : Dev nD} {g : GSem nD τ sig} {u : Unit} (h : 0 < O₀ c g u) :
    (∃ k, k < 24 ∧ g = recvCell (st k) (sn k) (down (st k) c)) ∨ ∃ d, g = barCell (toward d c) := by
  unfold O₀ O₁ at h
  rw [Pi.add_apply, Finsupp.add_apply, Pi.add_apply, Finsupp.add_apply] at h
  by_cases h1 : 0 < owe c 0 g u
  · obtain ⟨k, -, hk, rfl⟩ := owe_pos h1; exact .inl ⟨k, hk, rfl⟩
  by_cases h2 : 0 < (tallyAt (barCell (toward 0 c)) () 1 : CellTallies nD τ sig Unit) g u
  · exact .inr ⟨0, tally_pos h2⟩
  refine .inr ⟨1, tally_pos (u := u) (k := 1) (Nat.pos_of_ne_zero fun h3 => ?_)⟩
  rw [h3, Nat.eq_zero_of_not_pos h1, Nat.eq_zero_of_not_pos h2] at h
  exact Nat.lt_irrefl 0 h

/-- A wait on a cell of level at most `l`, when only receive cells above `l` are owed. -/
theorem mayWait_owe (c : Dev nD) (sm : SemLoc sig) (l j : ℕ) (hl : lv ((c : Thread nD τ), sm) () ≤ l) (hj : 4 * l ≤ j + 4) :
    (levAts L lv : sProp 𝕄) ⊢ MayWait (c : Thread nD τ) sm () (owe c j) :=
  MayOwe.of_cut (L := L) (lev := lv) l (fun p hp => by rw [Finset.mem_singleton.mp hp, L_tc]; exact Finset.mem_singleton_self _)
    (fun g u hg => by obtain ⟨k, hk, hk', rfl⟩ := owe_pos hg; exact Finset.mem_singleton_self _)
    (fun p hp => by rw [Finset.mem_singleton.mp hp]; exact hl)
    (fun g u hg => by
      obtain ⟨k, hk, hk', rfl⟩ := owe_pos hg
      rw [lv_recv]; show l < k / 4 % 6 + 2; omega)

theorem mayWait_stage (c : Dev nD) (q : DmaSem sig) (hq : isRecv q = false) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨k, -, rfl⟩ | ⟨d, rfl⟩ <;> exact Finset.mem_singleton_self _)
      (fun p hp => by
        rw [Finset.mem_singleton.mp hp]
        show (if isRecv q then (stepOf q).val + 2 else 0) ≤ 0
        rw [hq]; exact le_refl _)
      (fun g u hg => by
        rcases O₀_pos hg with ⟨k, -, rfl⟩ | ⟨d, rfl⟩
        · rw [lv_recv]; omega
        · exact Nat.one_pos)
  · rw [MayWait_zero]; iintro -; iempintro

end Cert.RingProof

end
-- ==== Proof.Steps.lean ====
/-
# The steps of a stream

The state of a stream on a device, by how many of its transfers are started, have arrived and are
waited for, and the rule for each kind of step. Every rule is stated once, for a symbolic stream and a
symbolic step; the operands of the program are variables with an equation.
-/
module

public import proofs.«01_k».proof.Proof.Protocol

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (a : Dev nD → Vec F S2048x1024 .bf16) (b : Dev nD → Vec F S1024x2048 .bf16)

/-! ## The cells' records -/

/-- A device's cells: the barrier, and the transfer semaphores. -/
abbrev KI : Type := Unit ⊕ Fin 48
abbrev csem : KI → SemLoc sig
  | .inl _ => .reg barS
  | .inr k => .dma (tsem k)
abbrev kcell (ck : Dev nD × KI) : GSem nD τ sig := ((ck.1 : Thread nD τ), csem ck.2)

/-- Every cell's invariant, under the name `K` gives it, and that its round 0 is reached; the levels. -/
def ctx (K : Dev nD × KI → ℕ) : sProp 𝕄 :=
  iprop(((bigSep Finset.univ fun ck : Dev nD × KI => cellInv ER (Rd a b) (K ck) (kcell ck))
    ∗ bigSep Finset.univ fun ck : Dev nD × KI => reached ER (kcell ck) 0) ∗ levAts L lv)

instance ctx_persistent (K : Dev nD × KI → ℕ) : BI.Persistent (ctx a b K) := by unfold ctx; infer_instance

variable (K : Dev nD × KI → ℕ)

theorem ctx_cell (ck : Dev nD × KI) : ctx a b K ⊢ iprop(cellInv ER (Rd a b) (K ck) (kcell ck) ∗ reached ER (kcell ck) 0) := by
  unfold ctx
  iintro ⟨⟨H, H'⟩, -⟩
  isplitl [H]
  · iapply (show (bigSep Finset.univ fun ck : Dev nD × KI => cellInv ER (Rd a b) (K ck) (kcell ck)) ⊢ cellInv ER (Rd a b) (K ck) (kcell ck)
      from bigSep_elim (Finset.mem_univ ck)) $$ H
  · iapply (show (bigSep Finset.univ fun ck : Dev nD × KI => (reached ER (kcell ck) 0 : sProp 𝕄)) ⊢ reached ER (kcell ck) 0
      from bigSep_elim (Finset.mem_univ ck)) $$ H'
theorem ctx_lev : ctx a b K ⊢ levAts L lv := by
  unfold ctx; iintro ⟨-, H⟩; iexact H

/-! ## The state of a stream -/

section State
variable (i : Fin 4)

/-- The two receipts for starting the transfer `n`, until it is started. -/
def toks (s : ℕ) (c : Dev nD) (n : Fin 6) : sProp 𝕄 :=
  if s ≤ n.val then iprop(dutyTok ER (sendCell i n c) 0 false ∗ dutyTok ER (recvCell i n (down i c)) 0 false) else iprop(emp)
/-- The receive cell of step `n`: open until the transfer has arrived. -/
def recvSt (r : ℕ) (c : Dev nD) (n : Fin 6) : sProp 𝕄 :=
  if r ≤ n.val then iprop(atPos ER (recvCell i n c) 0 ∅ 0 ∗ cred (tallyAt (recvCell i n c) () N)) else semVal (recvCell i n c) 0
/-- The send cell of step `n`, open until it is waited for, and the credit of a transfer under way. -/
def sendSt (s w : ℕ) (c : Dev nD) (n : Fin 6) : sProp 𝕄 :=
  iprop((if n.val < w then semVal (sendCell i n c) 0 else atPos ER (sendCell i n c) 0 ∅ 0)
    ∗ (if n.val < s ∧ w ≤ n.val then cred (tallyAt (sendCell i n c) () N) else iprop(emp)))
/-- The piece of step `n`: the landing piece once it is done with, or what is kept of the source piece. -/
def kept (s d w : ℕ) (c : Dev nD) (n : Fin 6) : sProp 𝕄 :=
  if n.val < 3 then (if n.val < d then some' (F := F) c (dstP i n) else iprop(emp))
  else if n.val < w then own c (srcP i n) fullShare (val a b i n.val c)
  else if n.val < s then own c (srcP i n) fullShare.left (val a b i n.val c) else iprop(emp)

/-- The step `n` of stream `i` on device `c`, when `s` transfers are started, `r` have arrived, `d` landing
    pieces are done with and `w` starts are waited for. -/
def stepAt (s r d w : ℕ) (c : Dev nD) (n : Fin 6) : sProp 𝕄 :=
  iprop(toks (F := F) i s c n ∗ recvSt (F := F) i r c n ∗ sendSt (F := F) i s w c n ∗ kept a b i s d w c n)

/-- What it holds of other devices. -/
def far (s r : ℕ) (c : Dev nD) : sProp 𝕄 := if s = r then hold (F := F) i s c else rest (F := F) i r c

def S (s r d w : ℕ) (c : Dev nD) : sProp 𝕄 := iprop(far (F := F) i s r c ∗ bigSep Finset.univ (stepAt a b i s r d w c))

/-- The receive credit still owed. -/
def Ow (c : Dev nD) (j : ℕ) : sProp 𝕄 := iprop(∃ W, owes (c : Thread nD τ) (owe c j) W)

omit [FloatOps F] in
theorem split_at {I : Type} [Fintype I] [DecidableEq I] (n : I) (Φ : I → sProp 𝕄) :
    bigSep Finset.univ Φ = iprop(Φ n ∗ bigSep (Finset.univ.erase n) Φ) := bigSep_univ_split n

/-- One step taken out, while the counts move past it. -/
theorem step_out (s r d w s' r' d' w' : ℕ) (c : Dev nD) (n : Fin 6)
    (hs : ∀ m : Fin 6, m ≠ n → (s ≤ m.val ↔ s' ≤ m.val)) (hr : ∀ m : Fin 6, m ≠ n → (r ≤ m.val ↔ r' ≤ m.val))
    (hd : ∀ m : Fin 6, m ≠ n → (d ≤ m.val ↔ d' ≤ m.val)) (hw : ∀ m : Fin 6, m ≠ n → (w ≤ m.val ↔ w' ≤ m.val)) :
    bigSep Finset.univ (stepAt a b i s r d w c) ⊢ iprop(stepAt a b i s r d w c n ∗ (stepAt a b i s' r' d' w' c n -∗ bigSep Finset.univ (stepAt a b i s' r' d' w' c))) := by
  rw [split_at n (stepAt a b i s r d w c), split_at n (stepAt a b i s' r' d' w' c),
    bigSep_congr (s := Finset.univ.erase n) (Φ := stepAt a b i s r d w c) (Ψ := stepAt a b i s' r' d' w' c) fun m hm => by
      have hm' := Finset.ne_of_mem_erase hm
      have e1 := hs m hm'; have e2 := hr m hm'; have e3 := hd m hm'; have e4 := hw m hm'
      have f1 : m.val < s ↔ m.val < s' := by omega
      have f3 : m.val < d ↔ m.val < d' := by omega
      have f4 : m.val < w ↔ m.val < w' := by omega
      unfold stepAt toks recvSt sendSt kept
      simp only [e1, e2, e4, f1, f3, f4]]
  iintro ⟨H, HR⟩
  isplitl [H]; · iexact H
  iintro H'
  isplitl [H'] <;> iassumption

end State

/-! ## Starting a transfer -/

omit [FloatOps F] in
theorem hold_at (i : Fin 4) (n : Fin 6) (c : Dev nD) :
    (hold (F := F) i n.val c : sProp 𝕄) = iprop(dn (F := F) i n c ∗ pass (F := F) i n.val c ∗ rest (F := F) i n.val c) := by
  unfold hold; rw [dif_pos n.isLt]

omit [FloatOps F] in
/-- A piece as a transfer names it. -/
theorem flat_own (c : Dev nD) (M : Memref sig .tc .vmem S1x512x512 .bf16) (q : PosShare TreeShare) (X : Vec F S1x512x512 .bf16) :
    (own c M q X : sProp 𝕄) ⊢ iprop(∃ f, ⌜M.view.read (Elt F) f = X⌝ ∗ ((flat M).view.loc (c : Thread nD τ) ↦[(flat M).view.set]{q} f)) := by
  unfold own owns
  iintro ⟨%f, %hf, H⟩
  iexists f
  isplitr; · ipureintro; exact hf
  rw [show (flat M).view.set = M.view.set from View.set_reshape _ _]
  iexact H
omit [FloatOps F] in
theorem own_flat (c : Dev nD) (M : Memref sig .tc .vmem S1x512x512 .bf16) (q : PosShare TreeShare) (X : Vec F S1x512x512 .bf16)
    (f : M.view.ty.Contents (Elt F)) (hf : M.view.read (Elt F) f = X) :
    ((flat M).view.loc (c : Thread nD τ) ↦[(flat M).view.set]{q} f : sProp 𝕄) ⊢ own c M q X := by
  unfold own owns
  rw [show (flat M).view.set = M.view.set from View.set_reshape _ _]
  iintro H
  iexists f
  isplitr; · ipureintro; exact hf
  iexact H

omit [FloatOps F] in
theorem some_any (c : Dev nD) {s : Shape} (M : Memref sig .tc .vmem s .bf16) : (some' (F := F) c M : sProp 𝕄) ⊢ iprop(∃ X, own c M fullShare X) :=
  ownsSat_any (c : Thread nD τ) M fullShare

section Send
variable (i : Fin 4) (n : Fin 6) (c : Dev nD)

omit [FloatOps F] in
theorem toks_open : (toks (F := F) i n.val c n : sProp 𝕄) = iprop(dutyTok ER (sendCell i n c) 0 false ∗ dutyTok ER (recvCell i n (down i c)) 0 false) :=
  if_pos (le_refl n.val)
omit [FloatOps F] in
theorem toks_used : (toks (F := F) i (n.val + 1) c n : sProp 𝕄) = iprop(emp) := if_neg (by omega)
omit [FloatOps F] in
theorem recv_open : (recvSt (F := F) i n.val c n : sProp 𝕄) = iprop(atPos ER (recvCell i n c) 0 ∅ 0 ∗ cred (tallyAt (recvCell i n c) () N)) :=
  if_pos (le_refl n.val)
omit [FloatOps F] in
theorem recv_closed : (recvSt (F := F) i (n.val + 1) c n : sProp 𝕄) = semVal (recvCell i n c) 0 := if_neg (by omega)
omit [FloatOps F] in
theorem send_open (s w : ℕ) (hs : ¬ n.val < s) (hw : ¬ n.val < w) :
    (sendSt (F := F) i s w c n : sProp 𝕄) = iprop(atPos ER (sendCell i n c) 0 ∅ 0 ∗ emp) := by
  unfold sendSt; rw [if_neg hw, if_neg fun h => hs h.1]
omit [FloatOps F] in
theorem send_under (s w : ℕ) (hs : n.val < s) (hw : ¬ n.val < w) :
    (sendSt (F := F) i s w c n : sProp 𝕄) = iprop(atPos ER (sendCell i n c) 0 ∅ 0 ∗ cred (tallyAt (sendCell i n c) () N)) := by
  unfold sendSt; rw [if_neg hw, if_pos ⟨hs, Nat.le_of_not_lt hw⟩]
omit [FloatOps F] in
theorem send_closed (s w : ℕ) (hw : n.val < w) : (sendSt (F := F) i s w c n : sProp 𝕄) = iprop(semVal (sendCell i n c) 0 ∗ emp) := by
  unfold sendSt; rw [if_pos hw, if_neg fun h => by omega]

theorem kept_lo (s s' d w w' : ℕ) (hn : n.val < 3) : kept a b i s d w c n = kept a b i s' d w' c n := by
  unfold kept; rw [if_pos hn, if_pos hn]
theorem kept_left (s d w : ℕ) (hn : ¬ n.val < 3) (hs : n.val < s) (hw : ¬ n.val < w) :
    kept a b i s d w c n = own c (srcP i n) fullShare.left (val a b i n.val c) := by
  unfold kept; rw [if_neg hn, if_neg hw, if_pos hs]
theorem kept_full (s d w : ℕ) (hn : ¬ n.val < 3) (hw : n.val < w) :
    kept a b i s d w c n = own c (srcP i n) fullShare (val a b i n.val c) := by
  unfold kept; rw [if_neg hn, if_pos hw]

/-- A transfer starts: the source piece goes, and for the last three steps the left half of it stays. -/
theorem send_step {c' : Dev nD} (hc : c' = down i c) {src dst : Memref sig .tc .vmem S512x512 .bf16} (hsE : src = flat (srcP i n)) (hdE : dst = flat (dstP i n))
    {qs qr : DmaSem sig} (hqs : qs = sendS i n) (hqr : qr = recvS i n) (s d j : ℕ) (hs : s = n.val) (hj : j = 4 * n.val + i.val)
    (X : Vec F S1x512x512 .bf16) (hX : X = val a b i n.val c)
    {hsc : (dst : Memref sig (Dev.tc c' : Thread nD τ).2.kind .vmem S512x512 .bf16).view.ref.isScScratch = false}
    {hsrc : src.view.WordExact} {hdst : (dst : Memref sig (Dev.tc c' : Thread nD τ).2.kind .vmem S512x512 .bf16).view.WordExact}
    {hsem : DmaTarget.Typed .vmem (.dma qr) (.remote (Dev.tc c' : Thread nD τ) dst (.dma qs) hsc)}
    {α : Type} {Q : α → sProp 𝕄} {k : PUnit → Prog (TpuEff nD τ sig (Elt F) Λ₀ .tc) α} :
    ctx a b K ⊢ iprop(S a b i s s d 0 c -∗ own c (srcP i n) fullShare X -∗ (∃ W, owes (c : Thread nD τ) (owe c j) W)
      -∗ ((S a b i (s + 1) s d 0 c ∗ (∃ W, owes (c : Thread nD τ) (owe c (j + 1)) W)) -∗ wp frame (wpE (defs₀ (F := F)) 𝒱₀ (c : Thread nD τ) none) Set.univ (k ⟨⟩) Q)
      -∗ wp frame (wpE (defs₀ (F := F)) 𝒱₀ (c : Thread nD τ) none) Set.univ
          (.op (.enqueueDma src (.remote (Dev.tc c' : Thread nD τ) dst (.dma qs) hsc) (.dma qr) hsrc hdst hsem) k) Q) := by
  subst hc hsE hdE hqs hqr hs hj hX
  have h1 : up i (down i c) = c := from_toward _ _
  iintro #Hctx HS Hsrc ⟨%W, HO⟩ Hk
  ihave HcS := (ctx_cell a b K (c, .inr (sendK i n))) $$ Hctx
  ihave HcR := (ctx_cell a b K (down i c, .inr (recvK i n))) $$ Hctx
  icases HcS with ⟨#HIS, #HrS⟩
  icases HcR with ⟨#HIR, #HrR⟩
  unfold S far
  rw [if_pos rfl, if_neg (by omega : ¬ n.val + 1 = n.val)]
  icases HS with ⟨Hhold, Hsteps⟩
  ihave Hhold := (BIBase.Entails.of_eq (hold_at i n c)) $$ Hhold
  icases Hhold with ⟨Hdn, Hpass, Hrest⟩
  ihave Hsteps := (step_out a b i n.val n.val d 0 (n.val + 1) n.val d 0 c n (fun m hm => by have := Fin.val_ne_of_ne hm; omega)
    (fun _ _ => Iff.rfl) (fun _ _ => Iff.rfl) (fun _ _ => Iff.rfl)) $$ Hsteps
  icases Hsteps with ⟨Hn, Hback⟩
  unfold stepAt
  icases Hn with ⟨Htok, Hrecv, Hsend, Hpiece⟩
  ihave Htok := (BIBase.Entails.of_eq (toks_open i n c)) $$ Htok
  ihave Hsend := (BIBase.Entails.of_eq (send_open i n c n.val 0 (Nat.lt_irrefl _) (Nat.not_lt_zero _))) $$ Hsend
  icases Htok with ⟨HtS, HtR⟩
  icases Hsend with ⟨HatS, -⟩
  ihave Hdn := (some_any (F := F) (down i c) (dstP i n)) $$ Hdn
  icases Hdn with ⟨%Y, Hdn⟩
  ihave Hdn := (flat_own (down i c) (dstP i n) fullShare Y) $$ Hdn
  icases Hdn with ⟨%fd, -, Hdn⟩
  by_cases hn : n.val < 3
  · ihave Hsrc := (flat_own c (srcP i n) fullShare _) $$ Hsrc
    icases Hsrc with ⟨%fs, %hfs, Hsrc⟩
    iapply (Rounds.wp_send_landing_pointsTo_with 𝒱₀ ER (Rd a b) (c : Thread nD τ) none (κ₁ := K (c, .inr (sendK i n))) (κ₂ := K (down i c, .inr (recvK i n)))
      (c' := (down i c : Thread nD τ)) (src := flat (srcP i n)) (dst := flat (dstP i n)) (r₁ := 0) (r₂ := 0) (d₁ := false) (d₂ := false) (fs := fs) (fd := fd) (F := pass (F := F) i n.val c)
      (by rw [duties_dma]; exact Finset.mem_singleton_self _) (by rw [duties_dma]; exact Finset.mem_singleton_self _) () () N rfl rfl rfl
      (owe c (4 * n.val + i.val + 1)) (owe_step c i n)
      (by rw [payload_send, sendPay, if_pos hn])
      (by
        rw [payload_recv, recvPay, h1]
        iintro ⟨⟨Hd, Hp⟩, Hs⟩
        isplitl [Hd]
        · iapply (own_flat (down i c) (dstP i n) fullShare _ _ ((landed (srcP i n) (dstP i n) fd fs).trans hfs)) $$ Hd
        · iapply (travel_lo (F := F) i n hn c)
          isplitl [Hs]
          · iapply (forget c (srcP i n) _)
            iapply (own_flat c (srcP i n) fullShare _ _ hfs) $$ Hs
          · iexact Hp)) $$ [Hsrc Hdn Hpass HO HtS HtR]
    · isplitr; · iexact HIS
      isplitr; · iexact HIR
      isplitl [Hsrc]; · iexact Hsrc
      isplitl [Hdn Hpass]
      · isplitl [Hdn] <;> iassumption
      isplitl [HO]; · iexact HO
      isplitl [HtS]; · iexact HtS
      isplitr; · iexact HrS
      isplitl [HtR]; · iexact HtR
      iexact HrR
    iintro ⟨Hcr, HO⟩
    iapply Hk
    isplitr [HO]
    · isplitl [Hrest]; · iexact Hrest
      iapply Hback
      isplitr
      · iapply (BIBase.Entails.of_eq (toks_used i n c).symm); iempintro
      isplitl [Hrecv]; · iexact Hrecv
      isplitl [HatS Hcr]
      · iapply (BIBase.Entails.of_eq (send_under i n c (n.val + 1) 0 (Nat.lt_succ_self _) (Nat.not_lt_zero _)).symm)
        isplitl [HatS] <;> iassumption
      iapply (BIBase.Entails.of_eq (kept_lo a b i n c n.val (n.val + 1) d 0 0 hn)) $$ Hpiece
    · iexists W; iexact HO
  · ihave Hsrc := (owns_halves (c : Thread nD τ) (srcP i n) fullShare _).1 $$ Hsrc
    icases Hsrc with ⟨Hleft, Hsrc⟩
    ihave Hsrc := (flat_own c (srcP i n) fullShare.right _) $$ Hsrc
    icases Hsrc with ⟨%fs, %hfs, Hsrc⟩
    iapply (Rounds.wp_send_pointsTo_with 𝒱₀ ER (Rd a b) (c : Thread nD τ) none (κ₁ := K (c, .inr (sendK i n))) (κ₂ := K (down i c, .inr (recvK i n)))
      (c' := (down i c : Thread nD τ)) (src := flat (srcP i n)) (dst := flat (dstP i n)) (r₁ := 0) (r₂ := 0) (d₁ := false) (d₂ := false) (fs := fs) (fd := fd) (F := pass (F := F) i n.val c)
      (by rw [duties_dma]; exact Finset.mem_singleton_self _) (by rw [duties_dma]; exact Finset.mem_singleton_self _) () () N rfl rfl rfl
      (owe c (4 * n.val + i.val + 1)) (owe_step c i n)
      (by
        rw [payload_send, sendPay, if_neg hn]
        iintro Hs
        iapply (own_flat c (srcP i n) fullShare.right _ _ hfs) $$ Hs)
      (by
        rw [payload_recv, recvPay, h1]
        iintro ⟨Hd, Hp⟩
        isplitl [Hd]
        · iapply (own_flat (down i c) (dstP i n) fullShare _ _ ((landed (srcP i n) (dstP i n) fd fs).trans hfs)) $$ Hd
        · iapply (travel_hi (F := F) i n (by omega) c) $$ Hp)) $$ [Hsrc Hdn Hpass HO HtS HtR]
    · isplitr; · iexact HIS
      isplitr; · iexact HIR
      isplitl [Hsrc]; · iexact Hsrc
      isplitl [Hdn Hpass]
      · isplitl [Hdn] <;> iassumption
      isplitl [HO]; · iexact HO
      isplitl [HtS]; · iexact HtS
      isplitr; · iexact HrS
      isplitl [HtR]; · iexact HtR
      iexact HrR
    iintro ⟨Hcr, HO⟩
    iapply Hk
    isplitr [HO]
    · isplitl [Hrest]; · iexact Hrest
      iapply Hback
      isplitr
      · iapply (BIBase.Entails.of_eq (toks_used i n c).symm); iempintro
      isplitl [Hrecv]; · iexact Hrecv
      isplitl [HatS Hcr]
      · iapply (BIBase.Entails.of_eq (send_under i n c (n.val + 1) 0 (Nat.lt_succ_self _) (Nat.not_lt_zero _)).symm)
        isplitl [HatS] <;> iassumption
      iapply (BIBase.Entails.of_eq (kept_left a b i n c (n.val + 1) d 0 hn (Nat.lt_succ_self _) (Nat.not_lt_zero _)).symm) $$ Hleft
    · iexists W; iexact HO

/-- A transfer arrives: the landed piece, and what the next step starts from. -/
theorem recv_step {q : DmaSem sig} (hq : q = recvS i n) {src dst : Memref sig .tc .vmem S512x512 .bf16} (hN : dst.view.dmaCredit = N)
    (s r d j : ℕ) (hs : s = n.val + 1) (hr : r = n.val) (hj : 4 * n.val + 4 ≤ j)
    {hsrc : src.view.WordExact} {hdst : dst.view.WordExact} {α : Type} {Q : α → sProp 𝕄} {k : PUnit → Prog (TpuEff nD τ sig (Elt F) Λ₀ .tc) α} :
    ctx a b K ⊢ iprop(S a b i s r d 0 c -∗ (∃ W, owes (c : Thread nD τ) (owe c j) W)
      -∗ ((S a b i s s d 0 c ∗ own c (dstP i n) fullShare (val a b i n.val (up i c)) ∗ (∃ W, owes (c : Thread nD τ) (owe c j) W))
          -∗ wp frame (wpE (defs₀ (F := F)) 𝒱₀ (c : Thread nD τ) none) Set.univ (k ⟨⟩) Q)
      -∗ wp frame (wpE (defs₀ (F := F)) 𝒱₀ (c : Thread nD τ) none) Set.univ (.op (.waitDma2 q src dst hsrc hdst) k) Q) := by
  subst hq hs hr
  iintro #Hctx HS ⟨%W, HO⟩ Hk
  ihave HcR := (ctx_cell a b K (c, .inr (recvK i n))) $$ Hctx
  icases HcR with ⟨#HIR, -⟩
  ihave Hlev := (ctx_lev a b K) $$ Hctx
  unfold S far
  rw [if_neg (by omega : ¬ n.val + 1 = n.val), if_pos rfl]
  icases HS with ⟨Hrest, Hsteps⟩
  ihave Hsteps := (step_out a b i (n.val + 1) n.val d 0 (n.val + 1) (n.val + 1) d 0 c n (fun _ _ => Iff.rfl)
    (fun m hm => by have := Fin.val_ne_of_ne hm; omega) (fun _ _ => Iff.rfl) (fun _ _ => Iff.rfl)) $$ Hsteps
  icases Hsteps with ⟨Hn, Hback⟩
  unfold stepAt
  icases Hn with ⟨Htok, Hrecv, Htail⟩
  ihave Hrecv := (BIBase.Entails.of_eq (recv_open i n c)) $$ Hrecv
  icases Hrecv with ⟨HatR, HcR⟩
  rw [← hN]
  iapply (Rounds.wp_wait_rest_token 𝒱₀ ER (Rd a b) (c : Thread nD τ) none (κ := K (c, .inr (recvK i n)))
      (wpE_waitDma2_eq 𝒱₀ (c : Thread nD τ) none Set.univ) (Set.mem_univ _) () (O := owe c j) (W := W) (R := 0) (m := 0) (T := ∅)
      (by rw [expect_dma, Nat.zero_add])) $$ [HcR HO HatR Hlev]
  · isplitr; · iexact HIR
    isplitl [HcR]; · iexact HcR
    isplitl [HO]; · iexact HO
    isplitl [Hlev]
    · iapply (mayWait_owe c (.dma (recvS i n)) (n.val + 2) j (le_of_eq (lv_recv i n c ())) (by omega)) $$ Hlev
    iexact HatR
  iintro ⟨HO, HatR, -, Hpay⟩
  ihave Hpay := (BIBase.Entails.of_eq (rest_recv a b i n c)) $$ Hpay
  unfold recvPay
  icases Hpay with ⟨Hland, Htrav⟩
  imod (Rounds.cell_close ER (Rd a b) (Set.mem_univ (K (c, .inr (recvK i n)))) (fun h => h) (R := 0 + 1) (duties_later a b (recvCell i n c))) $$ [HatR] with HzR
  · isplitr; · iexact HIR
    iexact HatR
  iapply Hk
  isplitl [Hrest Htrav Hback Htok HzR Htail]
  · isplitl [Hrest Htrav]
    · iapply (arrive (F := F) i n c)
      isplitl [Hrest] <;> iassumption
    iapply Hback
    isplitl [Htok]; · iexact Htok
    isplitl [HzR]
    · iapply (BIBase.Entails.of_eq (recv_closed i n c).symm) $$ HzR
    iexact Htail
  isplitl [Hland]; · iexact Hland
  iexists _; iexact HO

/-- A started transfer is over: its send cell is done, and the lent half of the source is back. -/
theorem swait_step {q : DmaSem sig} (hq : q = sendS i n) {src dst : Memref sig .tc .vmem S512x512 .bf16} (hN : dst.view.dmaCredit = N)
    (w : ℕ) (hw : w = n.val)
    {hsrc : src.view.WordExact} {hdst : dst.view.WordExact} {α : Type} {Q : α → sProp 𝕄} {k : PUnit → Prog (TpuEff nD τ sig (Elt F) Λ₀ .tc) α} :
    ctx a b K ⊢ iprop(S a b i 6 6 3 w c -∗ (∃ W, owes (c : Thread nD τ) (owe c 24) W)
      -∗ ((S a b i 6 6 3 (w + 1) c ∗ (∃ W, owes (c : Thread nD τ) (owe c 24) W))
          -∗ wp frame (wpE (defs₀ (F := F)) 𝒱₀ (c : Thread nD τ) none) Set.univ (k ⟨⟩) Q)
      -∗ wp frame (wpE (defs₀ (F := F)) 𝒱₀ (c : Thread nD τ) none) Set.univ (.op (.waitDma2 q src dst hsrc hdst) k) Q) := by
  subst hq hw
  iintro #Hctx HS ⟨%W, HO⟩ Hk
  ihave HcR := (ctx_cell a b K (c, .inr (sendK i n))) $$ Hctx
  icases HcR with ⟨#HIR, -⟩
  ihave Hlev := (ctx_lev a b K) $$ Hctx
  unfold S
  icases HS with ⟨Hfar, Hsteps⟩
  ihave Hsteps := (step_out a b i 6 6 3 n.val 6 6 3 (n.val + 1) c n (fun _ _ => Iff.rfl) (fun _ _ => Iff.rfl) (fun _ _ => Iff.rfl)
    (fun m hm => by have := Fin.val_ne_of_ne hm; omega)) $$ Hsteps
  icases Hsteps with ⟨Hn, Hback⟩
  unfold stepAt
  icases Hn with ⟨Htok, Hrecv, Hsend, Hkept⟩
  ihave Hsend := (BIBase.Entails.of_eq (send_under i n c 6 n.val n.isLt (Nat.lt_irrefl _))) $$ Hsend
  icases Hsend with ⟨HatS, HcS⟩
  rw [← hN]
  iapply (Rounds.wp_wait_rest_token 𝒱₀ ER (Rd a b) (c : Thread nD τ) none (κ := K (c, .inr (sendK i n)))
      (wpE_waitDma2_eq 𝒱₀ (c : Thread nD τ) none Set.univ) (Set.mem_univ _) () (O := owe c 24) (W := W) (R := 0) (m := 0) (T := ∅)
      (by rw [expect_dma, Nat.zero_add])) $$ [HcS HO HatS Hlev]
  · isplitr; · iexact HIR
    isplitl [HcS]; · iexact HcS
    isplitl [HO]; · iexact HO
    isplitl [Hlev]
    · iapply (mayWait_owe c (.dma (sendS i n)) 0 24 (by
        obtain ⟨h1, -⟩ := sendS_facts i n
        show (if isRecv (sendS i n) then (stepOf (sendS i n)).val + 2 else 0) ≤ 0
        rw [h1]; exact le_refl _) (by omega)) $$ Hlev
    iexact HatS
  iintro ⟨HO, HatS, -, Hpay⟩
  ihave Hpay := (BIBase.Entails.of_eq (rest_send a b i n c)) $$ Hpay
  imod (Rounds.cell_close ER (Rd a b) (Set.mem_univ (K (c, .inr (sendK i n)))) (fun h => h) (R := 0 + 1) (duties_later a b (sendCell i n c))) $$ [HatS] with HzS
  · isplitr; · iexact HIR
    iexact HatS
  iapply Hk
  isplitr [HO]
  · isplitl [Hfar]; · iexact Hfar
    iapply Hback
    isplitl [Htok]; · iexact Htok
    isplitl [Hrecv]; · iexact Hrecv
    isplitl [HzS]
    · iapply (BIBase.Entails.of_eq (send_closed i n c 6 (n.val + 1) (Nat.lt_succ_self _)).symm)
      isplitl [HzS]; · iexact HzS
      iempintro
    by_cases hn : n.val < 3
    · iclear Hpay
      iapply (BIBase.Entails.of_eq (kept_lo a b i n c 6 6 3 n.val (n.val + 1) hn)) $$ Hkept
    · iapply (BIBase.Entails.of_eq (kept_full a b i n c 6 3 (n.val + 1) hn (Nat.lt_succ_self _)).symm)
      ihave Hkept := (BIBase.Entails.of_eq (kept_left a b i n c 6 3 n.val hn n.isLt (Nat.lt_irrefl _))) $$ Hkept
      ihave Hpay := (BIBase.Entails.of_eq (show sendPay a b i n c = own c (srcP i n) fullShare.right (val a b i n.val c) from if_neg hn)) $$ Hpay
      iapply (owns_halves (c : Thread nD τ) (srcP i n) fullShare _).2
      isplitl [Hkept] <;> iassumption
  iexists _; iexact HO

/-- A landing piece is given back. -/
theorem give_back (s r d : ℕ) (hd : d = n.val) (hn : n.val < 3) (X : Vec F S1x512x512 .bf16) :
    iprop(S a b i s r d 0 c ∗ own c (dstP i n) fullShare X) ⊢ S a b i s r (d + 1) 0 c := by
  subst hd
  unfold S
  iintro ⟨⟨Hfar, Hsteps⟩, Hp⟩
  ihave Hsteps := (step_out a b i s r n.val 0 s r (n.val + 1) 0 c n (fun _ _ => Iff.rfl) (fun _ _ => Iff.rfl)
    (fun m hm => by have := Fin.val_ne_of_ne hm; omega) (fun _ _ => Iff.rfl)) $$ Hsteps
  icases Hsteps with ⟨Hn, Hback⟩
  isplitl [Hfar]; · iexact Hfar
  iapply Hback
  unfold stepAt
  icases Hn with ⟨Htok, Hrecv, Hsend, -⟩
  isplitl [Htok]; · iexact Htok
  isplitl [Hrecv]; · iexact Hrecv
  isplitl [Hsend]; · iexact Hsend
  iapply (BIBase.Entails.of_eq (show kept a b i s (n.val + 1) 0 c n = some' (F := F) c (dstP i n) from (if_pos hn).trans (if_pos (Nat.lt_succ_self n.val))).symm)
  iapply (forget c (dstP i n) X) $$ Hp

/-- The half of a source piece that stays while its transfer is under way. -/
theorem lend (s r d : ℕ) (hn : ¬ n.val < 3) (hs : n.val < s) :
    S a b i s r d 0 c ⊢ iprop(own c (srcP i n) fullShare.left (val a b i n.val c)
      ∗ (own c (srcP i n) fullShare.left (val a b i n.val c) -∗ S a b i s r d 0 c)) := by
  unfold S
  iintro ⟨Hfar, Hsteps⟩
  ihave Hsteps := (step_out a b i s r d 0 s r d 0 c n (fun _ _ => Iff.rfl) (fun _ _ => Iff.rfl) (fun _ _ => Iff.rfl) (fun _ _ => Iff.rfl)) $$ Hsteps
  icases Hsteps with ⟨Hn, Hback⟩
  unfold stepAt
  icases Hn with ⟨Htok, Hrecv, Hsend, Hkept⟩
  ihave Hkept := (BIBase.Entails.of_eq (kept_left a b i n c s d 0 hn hs (Nat.not_lt_zero _))) $$ Hkept
  isplitl [Hkept]; · iexact Hkept
  iintro Hkept
  isplitl [Hfar]; · iexact Hfar
  iapply Hback
  isplitl [Htok]; · iexact Htok
  isplitl [Hrecv]; · iexact Hrecv
  isplitl [Hsend]; · iexact Hsend
  iapply (BIBase.Entails.of_eq (kept_left a b i n c s d 0 hn hs (Nat.not_lt_zero _)).symm) $$ Hkept

end Send

/-! ## Loads and stores -/

section Local
variable (c : Dev nD) {s : Shape} (M : Memref sig .tc .vmem s .bf16) (r : Rect s) (hr : ∀ a, r.stride a = 1)

/-- A load of a part of an owned buffer. -/
theorem load_part {α : Type} {Q : α → sProp 𝕄} (q : PosShare TreeShare) (X : Vec F s .bf16) {hl : M.view.LoadsAt r.toLoadRect}
    {k : Vec F r.shape .bf16 → Prog (TpuEff nD τ sig (Elt F) Λ₀ .tc) α} :
    (own c M q X : sProp 𝕄)
      ⊢ iprop((own c M q X -∗ wp frame (wpE (defs₀ (F := F)) 𝒱₀ (c : Thread nD τ) none) Set.univ (k fun j => X (r.emb j)) Q)
          -∗ wp frame (wpE (defs₀ (F := F)) 𝒱₀ (c : Thread nD τ) none) Set.univ (.op (.load M r.toLoadRect hl) k) Q) := by
  unfold own owns
  iintro ⟨%f, %hf, H⟩ Hk
  iapply (wp_load_rect 𝒱₀ (c : Thread nD τ) none Set.univ (m := M) (r := r) (hl := hl) (View.set_slice_subset M.view r)) $$ H
  iintro H
  rw [show (M.access r).read (Elt F) f = fun j => X (r.emb j) from by funext j; rw [← hf]; rfl]
  iapply Hk
  iexists f
  isplitr; · ipureintro; exact hf
  iexact H

/-- A store into a part of an owned buffer, after a load of what was there. -/
theorem store_part {α : Type} {Q : α → sProp 𝕄} (X : Vec F s .bf16) (w : Vec F r.shape .bf16) {hl : M.view.LoadsAt r.toLoadRect}
    {hx : (M.access r).Stores Finset.univ} {hm : Finset.univ = Finset.univ ∨ ∀ a, r.stride a = 1}
    {k : PUnit → Prog (TpuEff nD τ sig (Elt F) Λ₀ .tc) α} :
    (own c M fullShare X : sProp 𝕄)
      ⊢ iprop((∀ Y, iprop(⌜(∀ j, Y (r.emb j) = w j) ∧ ∀ x, x ∉ r.set → Y x = X x⌝ -∗ own c M fullShare Y -∗ wp frame (wpE (defs₀ (F := F)) 𝒱₀ (c : Thread nD τ) none) Set.univ (k ⟨⟩) Q))
          -∗ wp frame (wpE (defs₀ (F := F)) 𝒱₀ (c : Thread nD τ) none) Set.univ (.op (.load M r.toLoadRect hl) fun _ => .op (.store M r w Finset.univ hx hm) k) Q) := by
  iintro H Hk
  iapply (load_part c M r fullShare X) $$ H
  iintro H
  unfold own owns
  icases H with ⟨%f, %hf, H⟩
  have hsub : (M.access r).setOn Finset.univ ⊆ M.view.set := View.set_slice_subset M.view r
  iapply (wp_store 𝒱₀ (c : Thread nD τ) none Set.univ (m := M) (r := r) (Mk := Finset.univ) (hx := hx) (hm := hm) hsub) $$ H
  iintro H
  iapply Hk $$ %(M.view.read (Elt F) ((M.access r).write (Elt F) f w Finset.univ)) []
  · ipureintro
    constructor
    · intro j
      exact congrFun (View.read_write_univ (v := M.access r) f w) j
    · intro x hx'
      rw [← hf]
      rw [View.read_apply, View.read_apply, View.write_of_not_mem]
      intro hmem
      rw [show (M.access r).setOn Finset.univ = r.set.map M.view.emb from View.set_slice M.view r] at hmem
      exact hx' ((Finset.mem_map' _).mp hmem)
  iexists _
  isplitr; · ipureintro; rfl
  iexact H

/-- A store over a piece, after a load of what was there. -/
theorem put_step {α : Type} {Q : α → sProp 𝕄} (w : Vec F r.shape .bf16) {hl : M.view.LoadsAt r.toLoadRect}
    {hx : (M.access r).Stores Finset.univ} {hm : Finset.univ = Finset.univ ∨ ∀ a, r.stride a = 1}
    {k : PUnit → Prog (TpuEff nD τ sig (Elt F) Λ₀ .tc) α} :
    (some' (F := F) c (M.slice r hr) : sProp 𝕄)
      ⊢ iprop((own c (M.slice r hr) fullShare w -∗ wp frame (wpE (defs₀ (F := F)) 𝒱₀ (c : Thread nD τ) none) Set.univ (k ⟨⟩) Q)
          -∗ wp frame (wpE (defs₀ (F := F)) 𝒱₀ (c : Thread nD τ) none) Set.univ (.op (.load M r.toLoadRect hl) fun _ => .op (.store M r w Finset.univ hx hm) k) Q) := by
  iintro H Hk
  ihave H := (some_any (F := F) c (M.slice r hr)) $$ H
  icases H with ⟨%X, H⟩
  iapply (load_piece c M r hr fullShare X) $$ H
  iintro H
  ihave H := (forget c (M.slice r hr) X) $$ H
  iapply (store_piece c M r hr w) $$ H
  iexact Hk

end Local

end Cert.RingProof

end
-- ==== Proof.Moves.lean ====
/-
# The moves of the schedule

The steps put together as the program makes them: an accumulation (a transfer arrives, the local product
is added to it), the clamp at zero, and the copies into the result. The result buffer is known by the
set of pieces already written.
-/
module

public import proofs.«01_k».proof.Proof.Steps
public import Idealize.ShloMosaic.Lib.ValueLayout

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (a : Dev nD → Vec F S2048x1024 .bf16) (b : Dev nD → Vec F S1024x2048 .bf16)
variable (K : Dev nD × KI → ℕ)

/-! ## Accumulating -/

/-- The steps of the reduce-scatter, and the ones after them. -/
abbrev lo (k : Fin 3) : Fin 6 := ⟨k.val, by omega⟩
abbrev nx (k : Fin 3) : Fin 6 := ⟨k.val + 1, by omega⟩

theorem dstP_lo (i : Fin 4) (k : Fin 3) : dstP i (lo k) = commP (dir i) k (half i) := by
  match k with
  | 0 => rfl
  | 1 => rfl
  | 2 => rfl

section Rs
variable (i : Fin 4) (k : Fin 3) (c : Dev nD)

/-- The transfer `k` arrives; what it brought is added to the accumulator piece that goes next. -/
theorem rs_step {n : Fin 6} (hn : n = nx k) {q : DmaSem sig} (hq : q = recvS i (lo k)) {A : Memref sig .tc .vmem S4x512x1024 .bf16} (hA : A = acc (dir i))
    {C : Memref sig .tc .vmem S3x512x1024 .bf16} (hC : C = comm (dir i))
    {offA offC : Fin 3 → ℕ} {inA : ∀ x, offA x + S1x512x512.size x ≤ S4x512x1024.size x} {inC : ∀ x, offC x + S1x512x512.size x ≤ S3x512x1024.size x}
    (hoA : offA = ![(srcSlot n).val, 0, 512 * (half i).val]) (hoC : offC = ![k.val, 0, 512 * (half i).val])
    {src dst : Memref sig .tc .vmem S512x512 .bf16} (hN : dst.view.dmaCredit = N)
    (X : Vec F S1x512x512 .bf16) {f : Vec F S1x512x512 .bf16 → Vec F S1x512x512 .bf16 → Vec F S1x512x512 .bf16} (hf : f = addP)
    (s r j : ℕ) (hs : s = k.val + 1) (hr : r = k.val) (hj : 4 * k.val + 4 ≤ j)
    {hsrc : src.view.WordExact} {hdst : dst.view.WordExact}
    {hl hl'' : A.view.LoadsAt (Rect.unit (s := S4x512x1024) offA S1x512x512.size inA).toLoadRect} {hl' : C.view.LoadsAt (Rect.unit (s := S3x512x1024) offC S1x512x512.size inC).toLoadRect}
    {hx : (A.access (Rect.unit (s := S4x512x1024) offA S1x512x512.size inA)).Stores Finset.univ}
    {hm : Finset.univ = Finset.univ ∨ ∀ x, (Rect.unit (s := S4x512x1024) offA S1x512x512.size inA).stride x = 1}
    {α : Type} {Q : α → sProp 𝕄} {kk : PUnit → Prog (TpuEff nD τ sig (Elt F) Λ₀ .tc) α} :
    ctx a b K ⊢ iprop(S a b i s r r 0 c -∗ own c (srcP i n) fullShare X -∗ (∃ W, owes (c : Thread nD τ) (owe c j) W)
      -∗ ((S a b i s s s 0 c ∗ own c (srcP i n) fullShare (addP X (val a b i k.val (up i c))) ∗ (∃ W, owes (c : Thread nD τ) (owe c j) W))
          -∗ wp frame (wpE (defs₀ (F := F)) 𝒱₀ (c : Thread nD τ) none) Set.univ (kk ⟨⟩) Q)
      -∗ wp frame (wpE (defs₀ (F := F)) 𝒱₀ (c : Thread nD τ) none) Set.univ
          (.op (.waitDma2 q src dst hsrc hdst) fun _ =>
            .op (.load A (Rect.unit (s := S4x512x1024) offA S1x512x512.size inA).toLoadRect hl) fun x =>
            .op (.load C (Rect.unit (s := S3x512x1024) offC S1x512x512.size inC).toLoadRect hl') fun y =>
            .op (.load A (Rect.unit (s := S4x512x1024) offA S1x512x512.size inA).toLoadRect hl'') fun _ =>
            .op (.store A (Rect.unit (s := S4x512x1024) offA S1x512x512.size inA) (f x y) Finset.univ hx hm) kk) Q) := by
  subst hn
  subst hA hC hoA hoC hf hs hr
  iintro #Hctx HS Hacc HO Hk
  iapply (recv_step a b K i (lo k) c hq hN (k.val + 1) k.val k.val j rfl rfl hj) $$ Hctx HS HO
  iintro ⟨HS, Hland, HO⟩
  iapply (load_piece c (acc (dir i)) (accR (srcSlot (nx k)) (half i)) (fun _ => rfl) fullShare X) $$ Hacc
  iintro Hacc
  rw [dstP_lo i k]
  iapply (load_piece c (comm (dir i)) (commR k (half i)) (fun _ => rfl) fullShare (val a b i k.val (up i c))) $$ Hland
  iintro Hland
  ihave Hacc := (forget c (srcP i (nx k)) X) $$ Hacc
  iapply (put_step c (acc (dir i)) (accR (srcSlot (nx k)) (half i)) (fun _ => rfl) (addP X (val a b i k.val (up i c)))) $$ Hacc
  iintro Hacc
  iapply Hk
  isplitl [HS Hland]
  · iapply (give_back a b i (lo k) c (k.val + 1) (k.val + 1) k.val rfl k.isLt (val a b i k.val (up i c)))
    isplitl [HS]; · iexact HS
    iapply (BIBase.Entails.of_eq (congrArg (fun M => own c M fullShare (val a b i k.val (up i c))) (dstP_lo i k).symm)) $$ Hland
  isplitl [Hacc]; · iexact Hacc
  iexact HO

end Rs

/-- A piece read, and written back changed. -/
theorem upd_step (c : Dev nD) {s : Shape} (M : Memref sig .tc .vmem s .bf16) (r : Rect s) (hr : ∀ a, r.stride a = 1)
    (X : Vec F r.shape .bf16) {f g : Vec F r.shape .bf16 → Vec F r.shape .bf16} (hf : f = g) {hl hl' : M.view.LoadsAt r.toLoadRect}
    {hx : (M.access r).Stores Finset.univ} {hm : Finset.univ = Finset.univ ∨ ∀ a, r.stride a = 1}
    {α : Type} {Q : α → sProp 𝕄} {k : PUnit → Prog (TpuEff nD τ sig (Elt F) Λ₀ .tc) α} :
    (own c (M.slice r hr) fullShare X : sProp 𝕄)
      ⊢ iprop((own c (M.slice r hr) fullShare (g X) -∗ wp frame (wpE (defs₀ (F := F)) 𝒱₀ (c : Thread nD τ) none) Set.univ (k ⟨⟩) Q)
          -∗ wp frame (wpE (defs₀ (F := F)) 𝒱₀ (c : Thread nD τ) none) Set.univ (.op (.load M r.toLoadRect hl) fun x => .op (.load M r.toLoadRect hl') fun _ => .op (.store M r (f x) Finset.univ hx hm) k) Q) := by
  subst hf
  iintro H Hk
  iapply (load_piece c M r hr fullShare X) $$ H
  iintro H
  ihave H := (forget c (M.slice r hr) X) $$ H
  iapply (put_step c M r hr (f X)) $$ H
  iexact Hk

/-! ## Writing the result -/

abbrev outM : Memref sig .tc .vmem S2048x2048 .bf16 := Memref.whole cc0_stg2_0

/-- The piece of the result that an element belongs to: its chunk of rows, and its stream. -/
def pos (x : S2048x2048.Idx) : Dev nD × Fin 4 :=
  (⟨(x 0).val / 512, by have h : (x 0).val < 2048 := (x 0).isLt; show _ < 4; omega⟩,
    ⟨(x 1).val / 1024 + 2 * ((x 1).val / 512 % 2), by have h : (x 1).val < 2048 := (x 1).isLt; omega⟩)

/-- The result buffer once the pieces of `D` are written. -/
def OutP (c : Dev nD) (D : Finset (Dev nD × Fin 4)) : sProp 𝕄 :=
  iprop(∃ X, ⌜∀ x, pos x ∈ D → X x = result a b x⌝ ∗ own c outM fullShare X)

theorem out_inb {o : Fin 2 → ℕ} {g : Dev nD} {i : Fin 4} (ho : o = ![512 * g.val, col i]) (x : S2048x2048.Idx) :
    (∀ k, o k ≤ (x k).val ∧ (x k).val < o k + S512x512.size k) ↔ pos x = (g, i) := by
  subst ho
  have h0 : (x 0).val < 2048 := (x 0).isLt
  have h1 : (x 1).val < 2048 := (x 1).isLt
  have hg : g.val < 4 := g.isLt
  constructor
  · intro h
    have e0 : 512 * g.val ≤ (x 0).val ∧ (x 0).val < 512 * g.val + 512 := h 0
    have e1 : 1024 * (i.val % 2) + 512 * (i.val / 2) ≤ (x 1).val ∧ (x 1).val < 1024 * (i.val % 2) + 512 * (i.val / 2) + 512 := h 1
    refine Prod.ext (Fin.ext ?_) (Fin.ext ?_)
    · show (x 0).val / 512 = g.val; omega
    · show (x 1).val / 1024 + 2 * ((x 1).val / 512 % 2) = i.val
      have hi : i.val = 0 ∨ i.val = 1 ∨ i.val = 2 ∨ i.val = 3 := by omega
      rcases hi with hi | hi | hi | hi <;> rw [hi] at e1 ⊢ <;> omega
  · intro h
    have e0 : (x 0).val / 512 = g.val := congrArg (fun p => p.1.val) h
    have e1 : (x 1).val / 1024 + 2 * ((x 1).val / 512 % 2) = i.val := congrArg (fun p => p.2.val) h
    intro k
    match k with
    | 0 => show 512 * g.val ≤ (x 0).val ∧ (x 0).val < 512 * g.val + 512; omega
    | 1 =>
      show 1024 * (i.val % 2) + 512 * (i.val / 2) ≤ (x 1).val ∧ (x 1).val < 1024 * (i.val % 2) + 512 * (i.val / 2) + 512
      have hi : i.val = 0 ∨ i.val = 1 ∨ i.val = 2 ∨ i.val = 3 := by omega
      rcases hi with hi | hi | hi | hi <;> rw [hi] at e1 ⊢ <;> omega

theorem slab_inb {o : Fin 2 → ℕ} {g : Dev nD} {d : Fin 2} (ho : o = ![512 * g.val, 1024 * d.val]) (x : S2048x2048.Idx) :
    (∀ k, o k ≤ (x k).val ∧ (x k).val < o k + S512x1024.size k) ↔ pos x = (g, ⟨d.val, by omega⟩) ∨ pos x = (g, ⟨d.val + 2, by omega⟩) := by
  subst ho
  have h0 : (x 0).val < 2048 := (x 0).isLt
  have h1 : (x 1).val < 2048 := (x 1).isLt
  have hg : g.val < 4 := g.isLt
  have hd : d.val < 2 := d.isLt
  constructor
  · intro h
    have e0 : 512 * g.val ≤ (x 0).val ∧ (x 0).val < 512 * g.val + 512 := h 0
    have e1 : 1024 * d.val ≤ (x 1).val ∧ (x 1).val < 1024 * d.val + 1024 := h 1
    by_cases hh : (x 1).val < 1024 * d.val + 512
    · refine .inl (Prod.ext (Fin.ext ?_) (Fin.ext ?_))
      · show (x 0).val / 512 = g.val; omega
      · show (x 1).val / 1024 + 2 * ((x 1).val / 512 % 2) = d.val; omega
    · refine .inr (Prod.ext (Fin.ext ?_) (Fin.ext ?_))
      · show (x 0).val / 512 = g.val; omega
      · show (x 1).val / 1024 + 2 * ((x 1).val / 512 % 2) = d.val + 2; omega
  · intro h
    have e0 : (x 0).val / 512 = g.val := by rcases h with h | h <;> exact congrArg (fun p => p.1.val) h
    have e1 : (x 1).val / 1024 + 2 * ((x 1).val / 512 % 2) = d.val ∨ (x 1).val / 1024 + 2 * ((x 1).val / 512 % 2) = d.val + 2 :=
      h.imp (congrArg fun p : Dev nD × Fin 4 => p.2.val) (congrArg fun p : Dev nD × Fin 4 => p.2.val)
    intro k
    match k with
    | 0 => show 512 * g.val ≤ (x 0).val ∧ (x 0).val < 512 * g.val + 512; omega
    | 1 => show 1024 * d.val ≤ (x 1).val ∧ (x 1).val < 1024 * d.val + 1024; omega

/-- A store of right elements into the result adds the pieces it covers. -/
theorem out_store (c : Dev nD) (D D' : Finset (Dev nD × Fin 4)) (r : Rect S2048x2048) (w : Vec F r.shape .bf16)
    (hin : ∀ j, w j = result a b (r.emb j)) (hD : ∀ x, pos x ∈ D' → x ∈ r.set ∨ pos x ∈ D)
    {hl : outM.view.LoadsAt r.toLoadRect} {hx : (outM.access r).Stores Finset.univ} {hm : Finset.univ = Finset.univ ∨ ∀ a, r.stride a = 1}
    {α : Type} {Q : α → sProp 𝕄} {k : PUnit → Prog (TpuEff nD τ sig (Elt F) Λ₀ .tc) α} :
    OutP a b c D ⊢ iprop((OutP a b c D' -∗ wp frame (wpE (defs₀ (F := F)) 𝒱₀ (c : Thread nD τ) none) Set.univ (k ⟨⟩) Q)
          -∗ wp frame (wpE (defs₀ (F := F)) 𝒱₀ (c : Thread nD τ) none) Set.univ (.op (.load outM r.toLoadRect hl) fun _ => .op (.store outM r w Finset.univ hx hm) k) Q) := by
  unfold OutP
  iintro ⟨%X, %hX, H⟩ Hk
  iapply (store_part c outM r X w) $$ H
  iintro %Y %hY H
  iapply Hk
  iexists Y
  isplitr
  · ipureintro
    intro x hx'
    by_cases hr : x ∈ r.set
    · obtain ⟨j, -, rfl⟩ := Finset.mem_map.mp (r.map_emb_univ ▸ hr)
      rw [← hin]; exact hY.1 j
    · rw [hY.2 x hr]
      exact hX x ((hD x hx').resolve_left hr)
  iexact H

theorem result_at (x : S2048x2048.Idx) {g : Dev nD} {i : Fin 4} (h : pos x = (g, i)) {p q : Fin 512} (hp : (x 0).val % 512 = p.val) (hq : (x 1).val % 512 = q.val) :
    result a b x = piece a b g i (ValueIdx.ix3 (n0 := 1) (n1 := 512) (n2 := 512) 0 p q) := by
  have h' : result a b x = piece a b (pos x).1 (pos x).2
    (ValueIdx.ix3 (n0 := 1) (n1 := 512) (n2 := 512) ⟨0, by decide⟩ ⟨(x 0).val % 512, Nat.mod_lt _ (by decide)⟩ ⟨(x 1).val % 512, Nat.mod_lt _ (by decide)⟩) := rfl
  rw [h', h]
  congr 1
  exact congrArg₂ (ValueIdx.ix3 (n0 := 1) (n1 := 512) (n2 := 512) 0) (Fin.ext hp) (Fin.ext hq)

theorem rect_mem {s : Shape} (r : Rect s) (j : r.shape.Idx) : r.emb j ∈ r.set := by
  rw [← r.map_emb_univ]; exact Finset.mem_map_of_mem _ (Finset.mem_univ j)

theorem cast_at (V : Vec F S1x512x512 .bf16) (j : S512x512.Idx) : k0_pay35 V j = V (ValueIdx.ix3 (n0 := 1) (n1 := 512) (n2 := 512) 0 (j 0) (j 1)) := by
  obtain ⟨p, q, rfl⟩ : ∃ p q, j = ValueIdx.ix2 (n0 := 512) (n1 := 512) p q := ⟨j 0, j 1, ValueIdx.eq_ix2 j⟩
  exact ValueIdx.shapeCast_1ab_ab_apply V shapeCasts_S1x512x512_S512x512 p q
theorem slab_at (V : Vec F S1x512x1024 .bf16) (j : S512x1024.Idx) : k0_pay33 V j = V (ValueIdx.ix3 (n0 := 1) (n1 := 512) (n2 := 1024) 0 (j 0) (j 1)) := by
  obtain ⟨p, q, rfl⟩ : ∃ p q, j = ValueIdx.ix2 (n0 := 512) (n1 := 1024) p q := ⟨j 0, j 1, ValueIdx.eq_ix2 j⟩
  exact ValueIdx.shapeCast_1ab_ab_apply V shapeCasts_S1x512x1024_S512x1024 p q

/-- A finished piece stored at its place. -/
theorem out_piece (c : Dev nD) (D : Finset (Dev nD × Fin 4)) (i : Fin 4) (g : Dev nD) {M : Memref sig .tc .vmem S2048x2048 .bf16} (hM : M = outM)
    {o : Fin 2 → ℕ} {ino : ∀ x, o x + S512x512.size x ≤ S2048x2048.size x} (ho : o = ![512 * g.val, col i])
    {w : Vec F S512x512 .bf16} (hw : w = k0_pay35 (piece a b g i))
    {hl : M.view.LoadsAt (Rect.unit (s := S2048x2048) o S512x512.size ino).toLoadRect} {hx : (M.access (Rect.unit (s := S2048x2048) o S512x512.size ino)).Stores Finset.univ}
    {hm : Finset.univ = Finset.univ ∨ ∀ x, (Rect.unit (s := S2048x2048) o S512x512.size ino).stride x = 1}
    {α : Type} {Q : α → sProp 𝕄} {k : PUnit → Prog (TpuEff nD τ sig (Elt F) Λ₀ .tc) α} :
    OutP a b c D ⊢ iprop((OutP a b c (insert (g, i) D) -∗ wp frame (wpE (defs₀ (F := F)) 𝒱₀ (c : Thread nD τ) none) Set.univ (k ⟨⟩) Q)
          -∗ wp frame (wpE (defs₀ (F := F)) 𝒱₀ (c : Thread nD τ) none) Set.univ
            (.op (.load M (Rect.unit (s := S2048x2048) o S512x512.size ino).toLoadRect hl) fun _ => .op (.store M (Rect.unit (s := S2048x2048) o S512x512.size ino) w Finset.univ hx hm) k) Q) := by
  subst hM hw
  refine out_store a b c D _ _ _ (fun j => ?_) (fun x hx' => ?_)
  · have hmem : pos ((Rect.unit (s := S2048x2048) o S512x512.size ino).emb j) = (g, i) :=
      (out_inb ho _).mp (Rect.mem_set_unit.mp (rect_mem _ j))
    have h0 : (j 0).val < 512 := (j 0).isLt
    have h1 : (j 1).val < 512 := (j 1).isLt
    rw [result_at a b _ hmem (p := j 0) (q := j 1)]
    · exact cast_at (piece a b g i) j
    · subst ho
      show (512 * g.val + 1 * (j 0).val) % 512 = (j 0).val; omega
    · subst ho
      show (1024 * (i.val % 2) + 512 * (i.val / 2) + 1 * (j 1).val) % 512 = (j 1).val; omega
  · rcases Finset.mem_insert.mp hx' with h | h
    · exact .inl (Rect.mem_set_unit.mpr ((out_inb ho x).mpr h))
    · exact .inr h

/-- The two finished pieces of a direction, stored together. -/
theorem out_slab (c : Dev nD) (D : Finset (Dev nD × Fin 4)) (d : Fin 2) (g : Dev nD) {M : Memref sig .tc .vmem S2048x2048 .bf16} (hM : M = outM)
    {o : Fin 2 → ℕ} {ino : ∀ x, o x + S512x1024.size x ≤ S2048x2048.size x} (ho : o = ![512 * g.val, 1024 * d.val])
    {w : Vec F S512x1024 .bf16} (hw : w = k0_pay33 (glue (piece a b g ⟨d.val, by omega⟩) (piece a b g ⟨d.val + 2, by omega⟩)))
    {hl : M.view.LoadsAt (Rect.unit (s := S2048x2048) o S512x1024.size ino).toLoadRect} {hx : (M.access (Rect.unit (s := S2048x2048) o S512x1024.size ino)).Stores Finset.univ}
    {hm : Finset.univ = Finset.univ ∨ ∀ x, (Rect.unit (s := S2048x2048) o S512x1024.size ino).stride x = 1}
    {α : Type} {Q : α → sProp 𝕄} {k : PUnit → Prog (TpuEff nD τ sig (Elt F) Λ₀ .tc) α} :
    OutP a b c D ⊢ iprop((OutP a b c (insert (g, ⟨d.val, by omega⟩) (insert (g, ⟨d.val + 2, by omega⟩) D)) -∗ wp frame (wpE (defs₀ (F := F)) 𝒱₀ (c : Thread nD τ) none) Set.univ (k ⟨⟩) Q)
          -∗ wp frame (wpE (defs₀ (F := F)) 𝒱₀ (c : Thread nD τ) none) Set.univ
            (.op (.load M (Rect.unit (s := S2048x2048) o S512x1024.size ino).toLoadRect hl) fun _ => .op (.store M (Rect.unit (s := S2048x2048) o S512x1024.size ino) w Finset.univ hx hm) k) Q) := by
  subst hM hw
  refine out_store a b c D _ _ _ (fun j => ?_) (fun x hx' => ?_)
  · have hin := Rect.mem_set_unit.mp (rect_mem (Rect.unit (s := S2048x2048) o S512x1024.size ino) j)
    have hmem := (slab_inb ho _).mp hin
    have h0 : (j 0).val < 512 := (j 0).isLt
    have h1 : (j 1).val < 1024 := (j 1).isLt
    have e0 : ((Rect.unit (s := S2048x2048) o S512x1024.size ino).emb j 0).val = 512 * g.val + 1 * (j 0).val := by subst ho; rfl
    have e1 : ((Rect.unit (s := S2048x2048) o S512x1024.size ino).emb j 1).val = 1024 * d.val + 1 * (j 1).val := by subst ho; rfl
    have hv : k0_pay33 (glue (piece a b g ⟨d.val, by omega⟩) (piece a b g ⟨d.val + 2, by omega⟩)) j
        = glue (piece a b g ⟨d.val, by omega⟩) (piece a b g ⟨d.val + 2, by omega⟩) (ValueIdx.ix3 (n0 := 1) (n1 := 512) (n2 := 1024) 0 (j 0) (j 1)) := by
      exact slab_at _ j
    rw [hv]
    unfold glue
    have hp : ∀ i : Fin 4, pos ((Rect.unit (s := S2048x2048) o S512x1024.size ino).emb j) = (g, i) →
        (1024 * d.val + 1 * (j 1).val) / 1024 + 2 * ((1024 * d.val + 1 * (j 1).val) / 512 % 2) = i.val := fun i h => by
      rw [← e1]; exact congrArg (fun p : Dev nD × Fin 4 => p.2.val) h
    by_cases hh : (j 1).val < 512
    · rw [dif_pos (show ((ValueIdx.ix3 (n0 := 1) (n1 := 512) (n2 := 1024) 0 (j 0) (j 1)) 2).val < 512 from hh)]
      have h' := hmem.resolve_right fun h => by have := hp _ h; simp only at this; omega
      refine (result_at a b _ h' (by rw [e0]; show _ = (j 0).val; omega) (by rw [e1]; show _ = (j 1).val; omega)).symm
    · rw [dif_neg (show ¬ ((ValueIdx.ix3 (n0 := 1) (n1 := 512) (n2 := 1024) 0 (j 0) (j 1)) 2).val < 512 from hh)]
      have h' := hmem.resolve_left fun h => by have := hp _ h; simp only at this; omega
      refine (result_at a b _ h' (by rw [e0]; show _ = (j 0).val; omega) (by rw [e1]; show _ = (j 1).val - 512; omega)).symm
  · rcases Finset.mem_insert.mp hx' with h | h
    · exact .inl (Rect.mem_set_unit.mpr ((slab_inb ho x).mpr (.inl h)))
    · rcases Finset.mem_insert.mp h with h | h
      · exact .inl (Rect.mem_set_unit.mpr ((slab_inb ho x).mpr (.inr h)))
      · exact .inr h

/-! ## Gathering -/

/-- The steps of the all-gather whose arrival is passed on. -/
abbrev hi (t : Fin 2) : Fin 6 := ⟨t.val + 3, by omega⟩
abbrev hj (t : Fin 2) : Fin 6 := ⟨t.val + 4, by omega⟩

theorem dstP_hi (i : Fin 4) (t : Fin 2) : dstP i (hi t) = srcP i (hj t) := by
  match t with
  | 0 => rfl
  | 1 => rfl

/-- A finished piece arrives, goes on to the next device, and is copied into the result. -/
theorem ag_step (i : Fin 4) (t : Fin 2) (c : Dev nD) (g : Dev nD) (hg : val a b i (t.val + 3) (up i c) = piece a b g i) (D : Finset (Dev nD × Fin 4))
    {q : DmaSem sig} (hq : q = recvS i (hi t)) {wsrc wdst : Memref sig .tc .vmem S512x512 .bf16} (hN : wdst.view.dmaCredit = N)
    {c' : Dev nD} (hc : c' = down i c) {src dst : Memref sig .tc .vmem S512x512 .bf16} (hsE : src = flat (srcP i (hj t))) (hdE : dst = flat (dstP i (hj t)))
    {qs qr : DmaSem sig} (hqs : qs = sendS i (hj t)) (hqr : qr = recvS i (hj t))
    {A : Memref sig .tc .vmem S4x512x1024 .bf16} (hA : A = acc (dir i)) {offA : Fin 3 → ℕ} {inA : ∀ x, offA x + S1x512x512.size x ≤ S4x512x1024.size x}
    (hoA : offA = ![(srcSlot (hj t)).val, 0, 512 * (half i).val])
    {M : Memref sig .tc .vmem S2048x2048 .bf16} (hM : M = outM) {o : Fin 2 → ℕ} {ino : ∀ x, o x + S512x512.size x ≤ S2048x2048.size x} (ho : o = ![512 * g.val, col i])
    {f : Vec F S1x512x512 .bf16 → Vec F S512x512 .bf16} (hf : f = k0_pay35)
    (s r j j' : ℕ) (hs : s = t.val + 4) (hr : r = t.val + 3) (hj' : j = 4 * (t.val + 4) + i.val) (hj'' : j' = j + 1)
    {w1 : wsrc.view.WordExact} {w2 : wdst.view.WordExact}
    {hsc : (dst : Memref sig (Dev.tc c' : Thread nD τ).2.kind .vmem S512x512 .bf16).view.ref.isScScratch = false}
    {hsrc : src.view.WordExact} {hdst : (dst : Memref sig (Dev.tc c' : Thread nD τ).2.kind .vmem S512x512 .bf16).view.WordExact}
    {hsem : DmaTarget.Typed .vmem (.dma qr) (.remote (Dev.tc c' : Thread nD τ) dst (.dma qs) hsc)}
    {hl : A.view.LoadsAt (Rect.unit (s := S4x512x1024) offA S1x512x512.size inA).toLoadRect}
    {hl' : M.view.LoadsAt (Rect.unit (s := S2048x2048) o S512x512.size ino).toLoadRect} {hx : (M.access (Rect.unit (s := S2048x2048) o S512x512.size ino)).Stores Finset.univ}
    {hm : Finset.univ = Finset.univ ∨ ∀ x, (Rect.unit (s := S2048x2048) o S512x512.size ino).stride x = 1}
    {α : Type} {Q : α → sProp 𝕄} {k : PUnit → Prog (TpuEff nD τ sig (Elt F) Λ₀ .tc) α} :
    ctx a b K ⊢ iprop(S a b i s r 3 0 c -∗ OutP a b c D -∗ (∃ W, owes (c : Thread nD τ) (owe c j) W)
      -∗ ((S a b i (s + 1) s 3 0 c ∗ OutP a b c (insert (g, i) D) ∗ (∃ W, owes (c : Thread nD τ) (owe c j') W))
          -∗ wp frame (wpE (defs₀ (F := F)) 𝒱₀ (c : Thread nD τ) none) Set.univ (k ⟨⟩) Q)
      -∗ wp frame (wpE (defs₀ (F := F)) 𝒱₀ (c : Thread nD τ) none) Set.univ
          (.op (.waitDma2 q wsrc wdst w1 w2) fun _ =>
            .op (.enqueueDma src (.remote (Dev.tc c' : Thread nD τ) dst (.dma qs) hsc) (.dma qr) hsrc hdst hsem) fun _ =>
            .op (.load A (Rect.unit (s := S4x512x1024) offA S1x512x512.size inA).toLoadRect hl) fun x =>
            .op (.load M (Rect.unit (s := S2048x2048) o S512x512.size ino).toLoadRect hl') fun _ =>
            .op (.store M (Rect.unit (s := S2048x2048) o S512x512.size ino) (f x) Finset.univ hx hm) k) Q) := by
  subst hs hr hA hoA hf hj''
  iintro #Hctx HS HD HO Hk
  iapply (recv_step a b K i (hi t) c hq hN (t.val + 4) (t.val + 3) 3 j rfl rfl (by rw [hj']; show 4 * (t.val + 3) + 4 ≤ _; omega)) $$ Hctx HS HO
  iintro ⟨HS, Hland, HO⟩
  rw [dstP_hi i t]
  iapply (send_step a b K i (hj t) c hc hsE hdE hqs hqr (t.val + 4) 3 j rfl hj' (val a b i (t.val + 3) (up i c)) rfl) $$ Hctx HS Hland HO
  iintro ⟨HS, HO⟩
  ihave HS := (lend a b i (hj t) c (t.val + 4 + 1) (t.val + 4) 3 (by show ¬ t.val + 4 < 3; omega) (Nat.lt_succ_self _)) $$ HS
  icases HS with ⟨Hpc, HS⟩
  iapply (load_piece c (acc (dir i)) (accR (srcSlot (hj t)) (half i)) (fun _ => rfl) fullShare.left (val a b i (t.val + 4) c)) $$ Hpc
  iintro Hpc
  ihave HS := HS $$ Hpc
  iapply (out_piece a b c D i g hM ho (congrArg k0_pay35 hg)) $$ HD
  iintro HD
  iapply Hk
  isplitl [HS]; · iexact HS
  isplitl [HD]; · iexact HD
  iexact HO

/-- The last finished piece arrives and is copied into the result. -/
theorem last_step (i : Fin 4) (c : Dev nD) (g : Dev nD) (hg : val a b i 5 (up i c) = piece a b g i) (D : Finset (Dev nD × Fin 4))
    {q : DmaSem sig} (hq : q = recvS i 5) {wsrc wdst : Memref sig .tc .vmem S512x512 .bf16} (hN : wdst.view.dmaCredit = N)
    {A : Memref sig .tc .vmem S4x512x1024 .bf16} (hA : A = acc (dir i)) {offA : Fin 3 → ℕ} {inA : ∀ x, offA x + S1x512x512.size x ≤ S4x512x1024.size x}
    (hoA : offA = ![2, 0, 512 * (half i).val])
    {M : Memref sig .tc .vmem S2048x2048 .bf16} (hM : M = outM) {o : Fin 2 → ℕ} {ino : ∀ x, o x + S512x512.size x ≤ S2048x2048.size x} (ho : o = ![512 * g.val, col i])
    {f : Vec F S1x512x512 .bf16 → Vec F S512x512 .bf16} (hf : f = k0_pay35)
    {w1 : wsrc.view.WordExact} {w2 : wdst.view.WordExact}
    {hl : A.view.LoadsAt (Rect.unit (s := S4x512x1024) offA S1x512x512.size inA).toLoadRect}
    {hl' : M.view.LoadsAt (Rect.unit (s := S2048x2048) o S512x512.size ino).toLoadRect} {hx : (M.access (Rect.unit (s := S2048x2048) o S512x512.size ino)).Stores Finset.univ}
    {hm : Finset.univ = Finset.univ ∨ ∀ x, (Rect.unit (s := S2048x2048) o S512x512.size ino).stride x = 1}
    {α : Type} {Q : α → sProp 𝕄} {k : PUnit → Prog (TpuEff nD τ sig (Elt F) Λ₀ .tc) α} :
    ctx a b K ⊢ iprop(S a b i 6 5 3 0 c -∗ OutP a b c D -∗ (∃ W, owes (c : Thread nD τ) (owe c 24) W)
      -∗ ((S a b i 6 6 3 0 c ∗ some' (F := F) c (accP (dir i) 2 (half i)) ∗ OutP a b c (insert (g, i) D) ∗ (∃ W, owes (c : Thread nD τ) (owe c 24) W))
          -∗ wp frame (wpE (defs₀ (F := F)) 𝒱₀ (c : Thread nD τ) none) Set.univ (k ⟨⟩) Q)
      -∗ wp frame (wpE (defs₀ (F := F)) 𝒱₀ (c : Thread nD τ) none) Set.univ
          (.op (.waitDma2 q wsrc wdst w1 w2) fun _ =>
            .op (.load A (Rect.unit (s := S4x512x1024) offA S1x512x512.size inA).toLoadRect hl) fun x =>
            .op (.load M (Rect.unit (s := S2048x2048) o S512x512.size ino).toLoadRect hl') fun _ =>
            .op (.store M (Rect.unit (s := S2048x2048) o S512x512.size ino) (f x) Finset.univ hx hm) k) Q) := by
  subst hA hoA hf
  iintro #Hctx HS HD HO Hk
  iapply (recv_step a b K i 5 c hq hN 6 5 3 24 rfl rfl (by decide)) $$ Hctx HS HO
  iintro ⟨HS, Hland, HO⟩
  ihave Hland := (show own c (dstP i 5) fullShare (val a b i (5 : Fin 6).val (up i c)) ⊢ own c (accP (dir i) 2 (half i)) fullShare (val a b i 5 (up i c)) from .rfl) $$ Hland
  iapply (load_piece c (acc (dir i)) (accR 2 (half i)) (fun _ => rfl) fullShare (val a b i 5 (up i c))) $$ Hland
  iintro Hland
  iapply (out_piece a b c D i g hM ho (congrArg k0_pay35 hg)) $$ HD
  iintro HD
  iapply Hk
  isplitl [HS]; · iexact HS
  isplitl [Hland]
  · iapply (forget c (accP (dir i) 2 (half i)) _) $$ Hland
  isplitl [HD]; · iexact HD
  iexact HO

end Cert.RingProof

end
-- ==== Proof.BodyA.lean ====
/-
# The body, first part: the barrier and the first products
-/
module

public import proofs.«01_k».proof.Proof.Moves

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (a : Dev nD → Vec F S2048x1024 .bf16) (b : Dev nD → Vec F S1024x2048 .bf16)
variable (K : Dev nD × KI → ℕ)

/-! ## The kernel's arguments -/

abbrev inA : Memref sig .tc .vmem S2048x1024 .bf16 := Memref.whole cc0_stg0_0
abbrev inB : Memref sig .tc .vmem S1024x2048 .bf16 := Memref.whole cc0_stg1_0

/-- A chunk of `A`'s rows is read. -/
theorem load_rows (c g : Dev nD) (X : Vec F S2048x1024 .bf16) {o : Fin 2 → ℕ} {ino : ∀ x, o x + S512x1024.size x ≤ S2048x1024.size x} (ho : o = ![512 * g.val, 0])
    {hl : inA.view.LoadsAt (Rect.unit (s := S2048x1024) o S512x1024.size ino).toLoadRect}
    {α : Type} {Q : α → sProp 𝕄} {k : Vec F S512x1024 .bf16 → Prog (TpuEff nD τ sig (Elt F) Λ₀ .tc) α} :
    (own c inA fullShare X : sProp 𝕄)
      ⊢ iprop((own c inA fullShare X -∗ wp frame (wpE (defs₀ (F := F)) 𝒱₀ (c : Thread nD τ) none) Set.univ (k (rows g X)) Q)
          -∗ wp frame (wpE (defs₀ (F := F)) 𝒱₀ (c : Thread nD τ) none) Set.univ (.op (.load inA (Rect.unit (s := S2048x1024) o S512x1024.size ino).toLoadRect hl) k) Q) := by
  subst ho
  exact load_part c inA (rowR g) fullShare X

/-- The block of `B` is read. -/
theorem load_all (c : Dev nD) (X : Vec F S1024x2048 .bf16) {ino : ∀ x, (![0, 0] : Fin 2 → ℕ) x + S1024x2048.size x ≤ S1024x2048.size x}
    {hl : inB.view.LoadsAt (Rect.unit (s := S1024x2048) ![0, 0] S1024x2048.size ino).toLoadRect}
    {α : Type} {Q : α → sProp 𝕄} {k : Vec F S1024x2048 .bf16 → Prog (TpuEff nD τ sig (Elt F) Λ₀ .tc) α} :
    (own c inB fullShare X : sProp 𝕄)
      ⊢ iprop((own c inB fullShare X -∗ wp frame (wpE (defs₀ (F := F)) 𝒱₀ (c : Thread nD τ) none) Set.univ (k X) Q)
          -∗ wp frame (wpE (defs₀ (F := F)) 𝒱₀ (c : Thread nD τ) none) Set.univ (.op (.load inB (Rect.unit (s := S1024x2048) ![0, 0] S1024x2048.size ino).toLoadRect hl) k) Q) := by
  have h : (fun j => X ((Rect.unit (s := S1024x2048) ![0, 0] S1024x2048.size ino).emb j)) = X := by
    funext j
    congr 1
    funext x
    refine Fin.ext ?_
    match x with
    | 0 => show 0 + 1 * (j 0).val = (j 0).val; omega
    | 1 => show 0 + 1 * (j 1).val = (j 1).val; omega
  have key := load_part (F := F) (Q := Q) (hl := hl) (k := k) c inB (Rect.unit (s := S1024x2048) ![0, 0] S1024x2048.size ino) fullShare X
  rw [h] at key
  exact key

/-- A piece that a transfer will read is written. -/
theorem put_src (i : Fin 4) (n : Fin 6) (c : Dev nD) {A : Memref sig .tc .vmem S4x512x1024 .bf16} (hA : A = acc (dir i))
    {o : Fin 3 → ℕ} {ino : ∀ x, o x + S1x512x512.size x ≤ S4x512x1024.size x} (ho : o = ![(srcSlot n).val, 0, 512 * (half i).val])
    (X : Vec F S1x512x512 .bf16) {w : Vec F S1x512x512 .bf16} (hw : w = X)
    {hl : A.view.LoadsAt (Rect.unit (s := S4x512x1024) o S1x512x512.size ino).toLoadRect} {hx : (A.access (Rect.unit (s := S4x512x1024) o S1x512x512.size ino)).Stores Finset.univ}
    {hm : Finset.univ = Finset.univ ∨ ∀ x, (Rect.unit (s := S4x512x1024) o S1x512x512.size ino).stride x = 1}
    {α : Type} {Q : α → sProp 𝕄} {k : PUnit → Prog (TpuEff nD τ sig (Elt F) Λ₀ .tc) α} :
    (some' (F := F) c (srcP i n) : sProp 𝕄)
      ⊢ iprop((own c (srcP i n) fullShare X -∗ wp frame (wpE (defs₀ (F := F)) 𝒱₀ (c : Thread nD τ) none) Set.univ (k ⟨⟩) Q)
          -∗ wp frame (wpE (defs₀ (F := F)) 𝒱₀ (c : Thread nD τ) none) Set.univ
            (.op (.load A (Rect.unit (s := S4x512x1024) o S1x512x512.size ino).toLoadRect hl) fun _ => .op (.store A (Rect.unit (s := S4x512x1024) o S1x512x512.size ino) w Finset.univ hx hm) k) Q) := by
  subst hA ho hw
  exact put_step c (acc (dir i)) (accR (srcSlot n) (half i)) (fun _ => rfl) w

/-- A whole slot is written with a product; its halves are the pieces of the two streams of a direction. -/
theorem put_slot (i i' : Fin 4) (h0 : half i = 0) (h1 : half i' = 1) (hd : dir i' = dir i) (n : Fin 6) (c : Dev nD) {A : Memref sig .tc .vmem S4x512x1024 .bf16} (hA : A = acc (dir i))
    {o : Fin 3 → ℕ} {ino : ∀ x, o x + S1x512x1024.size x ≤ S4x512x1024.size x} (ho : o = ![(srcSlot n).val, 0, 0])
    {w : Vec F S1x512x1024 .bf16} (hw : w = part a b (dir i) (srcSlot n) c)
    {hl : A.view.LoadsAt (Rect.unit (s := S4x512x1024) o S1x512x1024.size ino).toLoadRect} {hx : (A.access (Rect.unit (s := S4x512x1024) o S1x512x1024.size ino)).Stores Finset.univ}
    {hm : Finset.univ = Finset.univ ∨ ∀ x, (Rect.unit (s := S4x512x1024) o S1x512x1024.size ino).stride x = 1}
    {α : Type} {Q : α → sProp 𝕄} {k : PUnit → Prog (TpuEff nD τ sig (Elt F) Λ₀ .tc) α} :
    iprop(sp (F := F) i n c ∗ sp (F := F) i' n c)
      ⊢ iprop(((own c (srcP i n) fullShare (halfV (half i) (part a b (dir i) (srcSlot n) c)) ∗ own c (srcP i' n) fullShare (halfV (half i') (part a b (dir i') (srcSlot n) c)))
            -∗ wp frame (wpE (defs₀ (F := F)) 𝒱₀ (c : Thread nD τ) none) Set.univ (k ⟨⟩) Q)
          -∗ wp frame (wpE (defs₀ (F := F)) 𝒱₀ (c : Thread nD τ) none) Set.univ
            (.op (.load A (Rect.unit (s := S4x512x1024) o S1x512x1024.size ino).toLoadRect hl) fun _ => .op (.store A (Rect.unit (s := S4x512x1024) o S1x512x1024.size ino) w Finset.univ hx hm) k) Q) := by
  subst hA ho hw
  unfold sp srcP
  rw [hd, h0, h1]
  iintro H Hk
  ihave H := (slot_some (F := F) c (dir i) (srcSlot n)).2 $$ H
  iapply (put_step c (acc (dir i)) (slotR (srcSlot n)) (fun _ => rfl) _) $$ H
  iintro H
  ihave H := (slot_halves c (dir i) (srcSlot n) fullShare _).1 $$ H
  iapply Hk $$ H

/-- A part of the body at the buffers and semaphores of the region. -/
abbrev on {β : Type 1} (f : (arg0 : Memref sig .tc .vmem S2048x1024 .bf16) → arg0.IsWhole → (arg1 : Memref sig .tc .vmem S1024x2048 .bf16) → arg1.IsWhole
    → (arg2 : Memref sig .tc .vmem S2048x2048 .bf16) → arg2.IsWhole → (arg3 : Memref sig .tc .vmem S4x512x1024 .bf16) → arg3.IsWhole
    → (arg4 : Memref sig .tc .vmem S4x512x1024 .bf16) → arg4.IsWhole → (arg5 : Memref sig .tc .vmem S3x512x1024 .bf16) → arg5.IsWhole
    → (arg6 : Memref sig .tc .vmem S3x512x1024 .bf16) → arg6.IsWhole → DmaSems sig S2x6 → DmaSems sig S2x6 → DmaSems sig S2x6 → DmaSems sig S2x6 → β) : β :=
  f (Memref.whole cc0_stg0_0) (Memref.isWhole_whole _) (Memref.whole cc0_stg1_0) (Memref.isWhole_whole _) (Memref.whole cc0_stg2_0) (Memref.isWhole_whole _)
    (Memref.whole cc0_scratch0) (Memref.isWhole_whole _) (Memref.whole cc0_scratch1) (Memref.isWhole_whole _) (Memref.whole cc0_scratch2) (Memref.isWhole_whole _)
    (Memref.whole cc0_scratch3) (Memref.isWhole_whole _) cc0_scratch4 cc0_scratch5 cc0_scratch6 cc0_scratch7

/-! ## The buffers cut up -/

section Cut
variable (c : Dev nD) (d : Fin 2)

abbrev i₀ (d : Fin 2) : Fin 4 := ⟨d.val, by omega⟩
abbrev i₁ (d : Fin 2) : Fin 4 := ⟨d.val + 2, by omega⟩

/-- An accumulator is the pieces that its two streams send. -/
theorem acc_cut (i i' : Fin 4) (h0 : half i = 0) (h1 : half i' = 1) (hd : dir i = d) (hd' : dir i' = d) :
    (some' (F := F) c (acc d) : sProp 𝕄) ⊣⊢ iprop((sp (F := F) i 0 c ∗ sp (F := F) i' 0 c)
    ∗ (sp (F := F) i 3 c ∗ sp (F := F) i' 3 c) ∗ (sp (F := F) i 2 c ∗ sp (F := F) i' 2 c) ∗ (sp (F := F) i 1 c ∗ sp (F := F) i' 1 c)) := by
  have e2 : ∀ Φ : Fin 2 → sProp 𝕄, bigSep Finset.univ Φ = iprop(Φ 0 ∗ Φ 1) := bigSep_fin_two
  have e4 : ∀ Φ : Fin 4 → sProp 𝕄, bigSep Finset.univ Φ = iprop(Φ 0 ∗ Φ 1 ∗ Φ 2 ∗ Φ 3) := fun Φ => by
    rw [bigSep_univ_eq_bigSepL [0, 1, 2, 3] (by decide) (by decide), bigSepL_cons_cons, bigSepL_cons_cons, bigSepL_cons_cons, bigSepL_singleton]; rfl
  have key : (some' (F := F) c (acc d) : sProp 𝕄) ⊣⊢ _ := acc_pieces c d
  rw [bigSep_univ_prod, e4, e2, e2, e2, e2] at key
  unfold sp srcP
  rw [h0, h1, hd, hd']
  exact key

/-- A landing buffer of a neighbour is what its two streams start from. -/
theorem comm_holds : (some' (F := F) (toward d c) (comm d) : sProp 𝕄) ⊢ iprop(hold (F := F) (i₀ d) 0 c ∗ hold (F := F) (i₁ d) 0 c) := by
  have e2 : ∀ Φ : Fin 2 → sProp 𝕄, bigSep Finset.univ Φ = iprop(Φ 0 ∗ Φ 1) := bigSep_fin_two
  have e3 : ∀ Φ : Fin 3 → sProp 𝕄, bigSep Finset.univ Φ = iprop(Φ 0 ∗ Φ 1 ∗ Φ 2) := fun Φ => by
    rw [bigSep_univ_eq_bigSepL [0, 1, 2] (by decide) (by decide), bigSepL_cons_cons, bigSepL_cons_cons, bigSepL_singleton]; rfl
  have hd : ∀ d : Fin 2, dir (i₀ d) = d ∧ half (i₀ d) = 0 ∧ dir (i₁ d) = d ∧ half (i₁ d) = 1 := by decide
  obtain ⟨h1, h2, h3, h4⟩ := hd d
  have key : (some' (F := F) (toward d c) (comm d) : sProp 𝕄) ⊣⊢ _ := comm_pieces (toward d c) d
  rw [bigSep_univ_prod, e3, e2, e2, e2] at key
  have k0 : ∀ k : Fin 3, (some' (F := F) (toward d c) (commP d k 0) : sProp 𝕄) = dn (F := F) (i₀ d) (lo k) c := fun k => by
    show _ = some' (toward (dir (i₀ d)) c) (dstP (i₀ d) (lo k))
    rw [dstP_lo, h1, h2]
  have k1 : ∀ k : Fin 3, (some' (F := F) (toward d c) (commP d k 1) : sProp 𝕄) = dn (F := F) (i₁ d) (lo k) c := fun k => by
    show _ = some' (toward (dir (i₁ d)) c) (dstP (i₁ d) (lo k))
    rw [dstP_lo, h3, h4]
  dsimp only at key
  rw [k0, k0, k0, k1, k1, k1] at key
  refine key.1.trans ?_
  iintro ⟨⟨H00, H01⟩, ⟨H10, H11⟩, ⟨H20, H21⟩⟩
  isplitl [H00 H10 H20]
  · iapply (hold_zero (F := F) (i₀ d) c)
    isplitl [H00]; · iexact H00
    isplitl [H10]; · iexact H10
    iexact H20
  · iapply (hold_zero (F := F) (i₁ d) c)
    isplitl [H01]; · iexact H01
    isplitl [H11]; · iexact H11
    iexact H21

end Cut

/-! ## The barrier -/

/-- A stream before its first transfer. -/
abbrev steps (i : Fin 4) (c : Dev nD) : sProp 𝕄 := bigSep Finset.univ (stepAt a b i 0 0 0 0 c)

theorem S_start (i : Fin 4) (c : Dev nD) : iprop(hold (F := F) i 0 c ∗ steps a b i c) ⊢ S a b i 0 0 0 0 c := by
  unfold S far; rw [if_pos rfl]

/-- What the barrier needs. -/
def barRes (c : Dev nD) : sProp 𝕄 :=
  iprop(dutyTok ER (barCell (toward 1 c)) 0 false ∗ dutyTok ER (barCell (toward 0 c)) 0 true ∗ atPos ER (barCell c) 0 ∅ 0
    ∗ cred (tallyAt (barCell c) () 2))

theorem turn_left : ∀ c : Dev nD, toward 0 (toward 1 c) = c := by decide
theorem turn_right : ∀ c : Dev nD, toward 1 (toward 0 c) = c := by decide

/-- A unit to a neighbour's barrier cell, with the landing buffer it will send to. -/
theorem sig_step (e : Fin 2) (c : Dev nD) {c' : Dev nD} (hc : c' = toward e c) (d : Bool) (e' : Fin 2) (he : payDir d = e') (hd : toward e' (toward e c) = c)
    {O O' : CellTallies nD τ sig Unit} (hO : O = O' + tallyAt (barCell (toward e c)) () 1) {W : Waits sig Unit} {m : ℤ} (hm : m = ((1 : ℕ) : ℤ))
    {α : Type} {Q : α → sProp 𝕄} {k : PUnit → Prog (TpuEff nD τ sig (Elt F) Λ₀ .tc) α} :
    ctx a b K ⊢ iprop(owes (c : Thread nD τ) O W -∗ dutyTok ER (barCell (toward e c)) 0 d -∗ some' (F := F) c (comm e')
      -∗ (owes (c : Thread nD τ) O' W -∗ wp frame (wpE (defs₀ (F := F)) 𝒱₀ (c : Thread nD τ) none) Set.univ (k ⟨⟩) Q)
      -∗ wp frame (wpE (defs₀ (F := F)) 𝒱₀ (c : Thread nD τ) none) Set.univ (.op (.semSignal (c' : Thread nD τ) barS m) k) Q) := by
  subst hc hm he
  iintro #Hctx HO Ht Hcm Hk
  ihave H1 := (ctx_cell a b K (toward e c, .inl ())) $$ Hctx
  icases H1 with ⟨#HI, #Hr⟩
  have hp : (Rd a b).payload (barCell (toward e c)) 0 d = some' (F := F) c (comm (payDir d)) := by
    show some' (F := F) (toward (payDir d) (toward e c)) (comm (payDir d)) = _
    rw [hd]
  iapply (Rounds.wp_signal 𝒱₀ ER (Rd a b) (c : Thread nD τ) none (dst := (toward e c : Thread nD τ)) (κ := K (toward e c, .inl ())) (d := d) (r := 0)
    (by rw [duties_bar]; exact Finset.mem_univ _) (amount_bar a b _ d) () O' hO) $$ [HO Ht Hcm]
  · isplitr; · iexact HI
    isplitl [HO]; · iexact HO
    isplitl [Ht]; · iexact Ht
    isplitl [Hcm]
    · iapply (BIBase.Entails.of_eq hp.symm) $$ Hcm
    iexact Hr
  iexact Hk

set_option maxHeartbeats 1000000 in
theorem body_a (c : Dev nD) {Q : (Σ' (d0 : Dev nD) (v2 : BitVec 32) (v5 : BitVec 32) (v7 : BitVec 32) (v14 : FVec F S1024x2048 .bf16) (v18 : FVec F S512x1024 .bf16), BitVec 32) → sProp 𝕄} :
    ctx a b K ⊢ iprop(barRes (F := F) c -∗ steps a b 0 c -∗ steps a b 1 c -∗ steps a b 2 c -∗ steps a b 3 c
      -∗ some' (F := F) c (comm 0) -∗ some' (F := F) c (comm 1) -∗ own c inA fullShare (a c) -∗ own c inB fullShare (b c)
      -∗ sp (F := F) 0 0 c -∗ (∃ W, owes (c : Thread nD τ) (O₀ c) W)
      -∗ (∀ v2 v5 v7, iprop(S a b 0 0 0 0 0 c -∗ S a b 1 0 0 0 0 c -∗ S a b 2 0 0 0 0 c -∗ S a b 3 0 0 0 0 c
          -∗ own c inA fullShare (a c) -∗ own c inB fullShare (b c)
          -∗ own c (srcP 0 0) fullShare (val a b 0 0 c) -∗ (∃ W, owes (c : Thread nD τ) (owe c 0) W) -∗ semVal (barCell c) 0
          -∗ Q ⟨c, v2, v5, v7, k0_pay1 (b c), k0_pay2 (rows c (a c)), 1#32⟩))
      -∗ wp frame (wpE (defs₀ (F := F)) 𝒱₀ (c : Thread nD τ) none) Set.univ (on (k0_part1 (F := F))) Q) := by
  unfold barRes
  iintro #Hctx ⟨Ht1, Ht0, HatB, HcB⟩ Hs0 Hs1 Hs2 Hs3 Hcm0 Hcm1 HA HB Hpc ⟨%W, HO⟩ Hk
  ihave H3 := (ctx_cell a b K (c, .inl ())) $$ Hctx
  icases H3 with ⟨#HIB, -⟩
  ihave Hlev := (ctx_lev a b K) $$ Hctx
  rw [k0_part1_eq_skeleton]
  unfold on k0_part1_skel
  simp only [semSignalWord, semWaitWord, Prog.lift, Prog.bind_op, Prog.bind_ret, Prog.pure_eq_ret, wp_deviceId]
  iapply (sig_step a b K 1 c (Fin.ext (k0_dev1_eq c)) false 0 rfl (turn_left c) (O := O₀ c) (O' := O₁ c) rfl (by decide)) $$ Hctx HO Ht1 Hcm0
  iintro HO
  iapply (sig_step a b K 0 c (Fin.ext (k0_dev2_eq c)) true 1 rfl (turn_right c) (O := O₁ c) (O' := owe c 0) rfl (by decide)) $$ Hctx HO Ht0 Hcm1
  iintro HO
  iapply (Rounds.wp_wait_rest_token 𝒱₀ ER (Rd a b) (c : Thread nD τ) none (κ := K (c, .inl ()))
      (wpE_semWait_eq 𝒱₀ (c : Thread nD τ) none Set.univ) (Set.mem_univ _) () (O := owe c 0) (W := W) (R := 0) (m := 0) (T := ∅)
      (by rw [expect_bar]; decide)) $$ [HcB HO HatB Hlev]
  · isplitr; · iexact HIB
    isplitl [HcB]; · iexact HcB
    isplitl [HO]; · iexact HO
    isplitl [Hlev]
    · iapply (mayWait_owe c (.reg barS) 1 0 (le_refl _) (by decide)) $$ Hlev
    iexact HatB
  iintro ⟨HO, HatB, -, Hpay⟩
  ihave Hpay := (BIBase.Entails.of_eq (rest_bar a b c)) $$ Hpay
  icases Hpay with ⟨Hp0, Hp1⟩
  imod (Rounds.cell_close ER (Rd a b) (Set.mem_univ (K (c, .inl ()))) (fun h => h) (R := 0 + 1) (duties_later a b (barCell c))) $$ [HatB] with HzB
  · isplitr; · iexact HIB
    iexact HatB
  ihave Hp0 := (show barPay (F := F) c false ⊢ _ from comm_holds (F := F) c 0) $$ Hp0
  ihave Hp1 := (show barPay (F := F) c true ⊢ _ from comm_holds (F := F) c 1) $$ Hp1
  icases Hp0 with ⟨Hh0, Hh2⟩
  icases Hp1 with ⟨Hh1, Hh3⟩
  iapply (load_all c (b c)) $$ HB
  iintro HB
  iapply (load_rows c c (a c) (k0_off1_eq c)) $$ HA
  iintro HA
  iapply (put_src 0 0 c rfl rfl (val a b 0 0 c) rfl) $$ Hpc
  iintro Hpc
  simp only [wp_ret]
  imodintro
  iapply Hk $$ [Hh0 Hs0] [Hh1 Hs1] [Hh2 Hs2] [Hh3 Hs3] HA HB Hpc [HO] HzB
  · iapply (S_start a b 0 c)
    isplitl [Hh0]; · iexact Hh0
    iexact Hs0
  · iapply (S_start a b 1 c)
    isplitl [Hh1]; · iexact Hh1
    iexact Hs1
  · iapply (S_start a b 2 c)
    isplitl [Hh2]; · iexact Hh2
    iexact Hs2
  · iapply (S_start a b 3 c)
    isplitl [Hh3]; · iexact Hh3
    iexact Hs3
  iexists _; iexact HO

end Cert.RingProof

end
-- ==== Proof.BodyB.lean ====
/-
# The body: the reduce-scatter
-/
module

public import proofs.«01_k».proof.Proof.BodyA

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (a : Dev nD → Vec F S2048x1024 .bf16) (b : Dev nD → Vec F S1024x2048 .bf16)
variable (K : Dev nD × KI → ℕ)

/-- A resource for each stream. -/
abbrev each (f : Fin 4 → sProp 𝕄) : sProp 𝕄 := iprop(f 0 ∗ f 1 ∗ f 2 ∗ f 3)

/-- What the accumulator piece of step `n` holds before the transfer before it arrives. -/
abbrev fresh (n : Fin 6) (c : Dev nD) (i : Fin 4) : sProp 𝕄 := own c (srcP i n) fullShare (halfV (half i) (part a b (dir i) (srcSlot n) c))
abbrev owed (c : Dev nD) (j : ℕ) : sProp 𝕄 := iprop(∃ W, owes (c : Thread nD τ) (owe c j) W)

theorem credD (i : Fin 4) (n : Fin 6) : (flat (dstP i n)).view.dmaCredit = N := by
  match n, i with
  | 0, 0 => rfl | 0, 1 => rfl | 0, 2 => rfl | 0, 3 => rfl
  | 1, 0 => rfl | 1, 1 => rfl | 1, 2 => rfl | 1, 3 => rfl
  | 2, 0 => rfl | 2, 1 => rfl | 2, 2 => rfl | 2, 3 => rfl
  | 3, 0 => rfl | 3, 1 => rfl | 3, 2 => rfl | 3, 3 => rfl
  | 4, 0 => rfl | 4, 1 => rfl | 4, 2 => rfl | 4, 3 => rfl
  | 5, 0 => rfl | 5, 1 => rfl | 5, 2 => rfl | 5, 3 => rfl
theorem credS (i : Fin 4) (n : Fin 6) : (flat (srcP i n)).view.dmaCredit = N := by
  match i with
  | 0 => rfl | 1 => rfl | 2 => rfl | 3 => rfl

/-! ## The rows of a slot -/

theorem off2_at (r : Fin 3) (d : Fin 2) (s : Fin 4) : ∀ c : Dev nD, (c.val + r.val + 1) % 4 = (chunk d s c).val →
    k0_off2 c (BitVec.ofNat 32 (1 + r.val)) = ![512 * (chunk d s c).val, 0] := fun c h => by
  rw [k0_off2_eq c r, ← h]

theorem chunks : ∀ c : Dev nD, ((c.val + 2 + 1) % 4 = (chunk 0 3 c).val ∧ (c.val + 1 + 1) % 4 = (chunk 0 2 c).val ∧ (c.val + 0 + 1) % 4 = (chunk 0 1 c).val)
    ∧ ((c.val + 0 + 1) % 4 = (chunk 1 3 c).val ∧ (c.val + 1 + 1) % 4 = (chunk 1 2 c).val ∧ (c.val + 2 + 1) % 4 = (chunk 1 1 c).val) := by decide

set_option maxHeartbeats 1000000 in
/-- The first transfers start, and the products of slot 3 are written. -/
theorem body_b (c : Dev nD) (v2 v5 v7 : BitVec 32) {α : Type} {Q : α → sProp 𝕄} {k : PUnit → Prog (TpuEff nD τ sig (Elt F) Λ₀ .tc) α} :
    ctx a b K ⊢ iprop(each (fun i => S a b i 0 0 0 0 c) -∗ own c inA fullShare (a c)
      -∗ own c (srcP 0 0) fullShare (val a b 0 0 c) -∗ sp (F := F) 1 0 c -∗ sp (F := F) 2 0 c -∗ sp (F := F) 3 0 c
      -∗ (sp (F := F) 0 1 c ∗ sp (F := F) 2 1 c) -∗ (sp (F := F) 1 1 c ∗ sp (F := F) 3 1 c) -∗ owed c 0
      -∗ ((each (fun i => S a b i 1 0 0 0 c) ∗ own c inA fullShare (a c) ∗ each (fresh a b 1 c) ∗ owed c 4)
          -∗ wp frame (wpE (defs₀ (F := F)) 𝒱₀ (c : Thread nD τ) none) Set.univ (k ⟨⟩) Q)
      -∗ wp frame (wpE (defs₀ (F := F)) 𝒱₀ (c : Thread nD τ) none) Set.univ
          ((on (k0_part2 (F := F)) c v5 v7 (k0_pay1 (b c)) (k0_pay2 (rows c (a c))) 1#32).bind fun v56 =>
            (on (k0_part3 (F := F)) c v2 v5 v7 (k0_pay1 (b c)) (k0_pay2 (rows c (a c))) v56).bind fun v83 =>
            (on (k0_part4 (F := F)) c v2 v7 (k0_pay1 (b c)) v83).bind k) Q) := by
  dsimp only [each, fresh, owed]
  iintro #Hctx ⟨HS0, HS1, HS2, HS3⟩ HA Hp0 Hp1 Hp2 Hp3 Hr Hl HO Hk
  rw [k0_part2_eq_skeleton, k0_part3_eq_skeleton, k0_part4_eq_skeleton]
  unfold on k0_part2_skel k0_part3_skel k0_part4_skel
  simp only [Prog.lift, Prog.bind_op, Prog.bind_ret, Prog.pure_eq_ret]
  iapply (send_step a b K 0 0 c (Fin.ext (k0_dev3_eq c)) rfl rfl rfl rfl 0 0 0 rfl rfl (val a b 0 0 c) rfl) $$ Hctx HS0 Hp0 HO
  iintro ⟨HS0, HO⟩
  iapply (put_src 1 0 c rfl rfl (val a b 1 0 c) rfl) $$ Hp1
  iintro Hp1
  iapply (send_step a b K 1 0 c (Fin.ext (k0_dev4_eq c)) rfl rfl rfl rfl 0 0 1 rfl rfl (val a b 1 0 c) rfl) $$ Hctx HS1 Hp1 HO
  iintro ⟨HS1, HO⟩
  iapply (put_src 2 0 c rfl rfl (val a b 2 0 c) rfl) $$ Hp2
  iintro Hp2
  iapply (send_step a b K 2 0 c (Fin.ext (k0_dev5_eq c)) rfl rfl rfl rfl 0 0 2 rfl rfl (val a b 2 0 c) rfl) $$ Hctx HS2 Hp2 HO
  iintro ⟨HS2, HO⟩
  iapply (put_src 3 0 c rfl rfl (val a b 3 0 c) rfl) $$ Hp3
  iintro Hp3
  iapply (send_step a b K 3 0 c (Fin.ext (k0_dev6_eq c)) rfl rfl rfl rfl 0 0 3 rfl rfl (val a b 3 0 c) rfl) $$ Hctx HS3 Hp3 HO
  iintro ⟨HS3, HO⟩
  iapply (load_rows c (chunk 0 3 c) (a c) (off2_at 2 0 3 c (chunks c).1.1)) $$ HA
  iintro HA
  iapply (put_slot a b 0 2 rfl rfl rfl 1 c rfl rfl rfl) $$ Hr
  iintro ⟨Hr0, Hr2⟩
  iapply (load_rows c (chunk 1 3 c) (a c) (off2_at 0 1 3 c (chunks c).2.1)) $$ HA
  iintro HA
  iapply (put_slot a b 1 3 rfl rfl rfl 1 c rfl rfl rfl) $$ Hl
  iintro ⟨Hl1, Hl3⟩
  iapply Hk
  isplitl [HS0 HS1 HS2 HS3]
  · isplitl [HS0]; · iexact HS0
    isplitl [HS1]; · iexact HS1
    isplitl [HS2] <;> iassumption
  isplitl [HA]; · iexact HA
  isplitr [HO]
  · isplitl [Hr0]; · iexact Hr0
    isplitl [Hl1]; · iexact Hl1
    isplitl [Hr2] <;> iassumption
  iexact HO

set_option maxHeartbeats 1000000 in
/-- The first accumulations, the second transfers, and the products of slot 2 and of slot 1 to the right. -/
theorem body_c (c : Dev nD) (v2 v5 v7 : BitVec 32) {α : Type} {Q : α → sProp 𝕄} {k : Vec F S512x1024 .bf16 → Prog (TpuEff nD τ sig (Elt F) Λ₀ .tc) α} :
    ctx a b K ⊢ iprop(each (fun i => S a b i 1 0 0 0 c) -∗ own c inA fullShare (a c) -∗ each (fresh a b 1 c)
      -∗ (sp (F := F) 0 2 c ∗ sp (F := F) 2 2 c) -∗ (sp (F := F) 1 2 c ∗ sp (F := F) 3 2 c) -∗ (sp (F := F) 0 3 c ∗ sp (F := F) 2 3 c) -∗ owed c 4
      -∗ ((each (fun i => S a b i 2 1 1 0 c) ∗ own c inA fullShare (a c) ∗ each (fresh a b 2 c) ∗ (fresh a b 3 c 0 ∗ fresh a b 3 c 2) ∗ owed c 8)
          -∗ wp frame (wpE (defs₀ (F := F)) 𝒱₀ (c : Thread nD τ) none) Set.univ (k (rows (chunk 1 1 c) (a c))) Q)
      -∗ wp frame (wpE (defs₀ (F := F)) 𝒱₀ (c : Thread nD τ) none) Set.univ
          ((on (k0_part5 (F := F)) c v5 v7).bind fun _ =>
            (on (k0_part6 (F := F)) c v2 v5 (k0_pay1 (b c))).bind fun v167 =>
            (on (k0_part7 (F := F)) c v2 v7 (k0_pay1 (b c)) v167).bind fun v195 =>
            (on (k0_part8 (F := F)) c v5 v7 v195).bind fun v221 =>
            (on (k0_part9 (F := F)) c v2 v5 (k0_pay1 (b c)) v221).bind k) Q) := by
  dsimp only [each, fresh, owed]
  iintro #Hctx ⟨HS0, HS1, HS2, HS3⟩ HA ⟨Hf0, Hf1, Hf2, Hf3⟩ Hr Hl Hr' HO Hk
  rw [k0_part5_eq_skeleton, k0_part6_eq_skeleton, k0_part7_eq_skeleton, k0_part8_eq_skeleton, k0_part9_eq_skeleton]
  unfold on k0_part5_skel k0_part6_skel k0_part7_skel k0_part8_skel k0_part9_skel
  simp only [Prog.lift, Prog.bind_op, Prog.bind_ret, Prog.pure_eq_ret]
  iapply (rs_step a b K 0 0 c (n := 1) rfl rfl rfl rfl rfl rfl (credD 0 0) (halfV (half 0) (part a b (dir 0) (srcSlot 1) c)) rfl 1 0 4 rfl rfl (by decide)) $$ Hctx HS0 Hf0 HO
  iintro ⟨HS0, Hf0, HO⟩
  iapply (send_step a b K 0 1 c (Fin.ext (k0_dev7_eq c)) rfl rfl rfl rfl 1 1 4 rfl rfl (addP (halfV (half 0) (part a b (dir 0) (srcSlot 1) c)) (val a b 0 (0 : Fin 3).val (up 0 c))) rfl) $$ Hctx HS0 Hf0 HO
  iintro ⟨HS0, HO⟩
  iapply (rs_step a b K 1 0 c (n := 1) rfl rfl rfl rfl rfl rfl (credD 1 0) (halfV (half 1) (part a b (dir 1) (srcSlot 1) c)) rfl 1 0 5 rfl rfl (by decide)) $$ Hctx HS1 Hf1 HO
  iintro ⟨HS1, Hf1, HO⟩
  iapply (send_step a b K 1 1 c (Fin.ext (k0_dev8_eq c)) rfl rfl rfl rfl 1 1 5 rfl rfl (addP (halfV (half 1) (part a b (dir 1) (srcSlot 1) c)) (val a b 1 (0 : Fin 3).val (up 1 c))) rfl) $$ Hctx HS1 Hf1 HO
  iintro ⟨HS1, HO⟩
  iapply (load_rows c (chunk 0 2 c) (a c) (off2_at 1 0 2 c (chunks c).1.2.1)) $$ HA
  iintro HA
  iapply (put_slot a b 0 2 rfl rfl rfl 2 c rfl rfl rfl) $$ Hr
  iintro ⟨Hg0, Hg2⟩
  iapply (load_rows c (chunk 1 2 c) (a c) (off2_at 1 1 2 c (chunks c).2.2.1)) $$ HA
  iintro HA
  iapply (put_slot a b 1 3 rfl rfl rfl 2 c rfl rfl rfl) $$ Hl
  iintro ⟨Hg1, Hg3⟩
  iapply (rs_step a b K 2 0 c (n := 1) rfl rfl rfl rfl rfl rfl (credD 2 0) (halfV (half 2) (part a b (dir 2) (srcSlot 1) c)) rfl 1 0 6 rfl rfl (by decide)) $$ Hctx HS2 Hf2 HO
  iintro ⟨HS2, Hf2, HO⟩
  iapply (send_step a b K 2 1 c (Fin.ext (k0_dev9_eq c)) rfl rfl rfl rfl 1 1 6 rfl rfl (addP (halfV (half 2) (part a b (dir 2) (srcSlot 1) c)) (val a b 2 (0 : Fin 3).val (up 2 c))) rfl) $$ Hctx HS2 Hf2 HO
  iintro ⟨HS2, HO⟩
  iapply (rs_step a b K 3 0 c (n := 1) rfl rfl rfl rfl rfl rfl (credD 3 0) (halfV (half 3) (part a b (dir 3) (srcSlot 1) c)) rfl 1 0 7 rfl rfl (by decide)) $$ Hctx HS3 Hf3 HO
  iintro ⟨HS3, Hf3, HO⟩
  iapply (send_step a b K 3 1 c (Fin.ext (k0_dev10_eq c)) rfl rfl rfl rfl 1 1 7 rfl rfl (addP (halfV (half 3) (part a b (dir 3) (srcSlot 1) c)) (val a b 3 (0 : Fin 3).val (up 3 c))) rfl) $$ Hctx HS3 Hf3 HO
  iintro ⟨HS3, HO⟩
  iapply (load_rows c (chunk 0 1 c) (a c) (off2_at 0 0 1 c (chunks c).1.2.2)) $$ HA
  iintro HA
  iapply (put_slot a b 0 2 rfl rfl rfl 3 c rfl rfl rfl) $$ Hr'
  iintro ⟨Hh0, Hh2⟩
  iapply (load_rows c (chunk 1 1 c) (a c) (off2_at 2 1 1 c (chunks c).2.2.2)) $$ HA
  iintro HA
  iapply Hk
  isplitl [HS0 HS1 HS2 HS3]
  · isplitl [HS0]; · iexact HS0
    isplitl [HS1]; · iexact HS1
    isplitl [HS2] <;> iassumption
  isplitl [HA]; · iexact HA
  isplitl [Hg0 Hg1 Hg2 Hg3]
  · isplitl [Hg0]; · iexact Hg0
    isplitl [Hg1]; · iexact Hg1
    isplitl [Hg2] <;> iassumption
  isplitr [HO]
  · isplitl [Hh0] <;> iassumption
  iexact HO

end Cert.RingProof

end
-- ==== Proof.BodyC.lean ====
/-
# The body: the end of the reduce-scatter, the clamp, and the device's own piece
-/
module

public import proofs.«01_k».proof.Proof.BodyB

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (a : Dev nD → Vec F S2048x1024 .bf16) (b : Dev nD → Vec F S1024x2048 .bf16)
variable (K : Dev nD × KI → ℕ)

/-! ## More moves -/

/-- A piece that a transfer will read is read and written back changed. -/
theorem upd_src (i : Fin 4) (n : Fin 6) (c : Dev nD) {A : Memref sig .tc .vmem S4x512x1024 .bf16} (hA : A = acc (dir i))
    {o : Fin 3 → ℕ} {ino : ∀ x, o x + S1x512x512.size x ≤ S4x512x1024.size x} (ho : o = ![(srcSlot n).val, 0, 512 * (half i).val])
    (X : Vec F S1x512x512 .bf16) {f g : Vec F S1x512x512 .bf16 → Vec F S1x512x512 .bf16} (hf : f = g)
    {hl hl' : A.view.LoadsAt (Rect.unit (s := S4x512x1024) o S1x512x512.size ino).toLoadRect} {hx : (A.access (Rect.unit (s := S4x512x1024) o S1x512x512.size ino)).Stores Finset.univ}
    {hm : Finset.univ = Finset.univ ∨ ∀ x, (Rect.unit (s := S4x512x1024) o S1x512x512.size ino).stride x = 1}
    {α : Type} {Q : α → sProp 𝕄} {k : PUnit → Prog (TpuEff nD τ sig (Elt F) Λ₀ .tc) α} :
    (own c (srcP i n) fullShare X : sProp 𝕄)
      ⊢ iprop((own c (srcP i n) fullShare (g X) -∗ wp frame (wpE (defs₀ (F := F)) 𝒱₀ (c : Thread nD τ) none) Set.univ (k ⟨⟩) Q)
          -∗ wp frame (wpE (defs₀ (F := F)) 𝒱₀ (c : Thread nD τ) none) Set.univ
            (.op (.load A (Rect.unit (s := S4x512x1024) o S1x512x512.size ino).toLoadRect hl) fun x => .op (.load A (Rect.unit (s := S4x512x1024) o S1x512x512.size ino).toLoadRect hl')
              fun _ => .op (.store A (Rect.unit (s := S4x512x1024) o S1x512x512.size ino) (f x) Finset.univ hx hm) k) Q) := by
  subst hA ho
  exact upd_step c (acc (dir i)) (accR (srcSlot n) (half i)) (fun _ => rfl) X hf

/-- A piece that a transfer will read is read. -/
theorem load_src (i : Fin 4) (n : Fin 6) (c : Dev nD) {A : Memref sig .tc .vmem S4x512x1024 .bf16} (hA : A = acc (dir i))
    {o : Fin 3 → ℕ} {ino : ∀ x, o x + S1x512x512.size x ≤ S4x512x1024.size x} (ho : o = ![(srcSlot n).val, 0, 512 * (half i).val])
    (X : Vec F S1x512x512 .bf16) {hl : A.view.LoadsAt (Rect.unit (s := S4x512x1024) o S1x512x512.size ino).toLoadRect}
    {α : Type} {Q : α → sProp 𝕄} {k : Vec F S1x512x512 .bf16 → Prog (TpuEff nD τ sig (Elt F) Λ₀ .tc) α} :
    (own c (srcP i n) fullShare X : sProp 𝕄)
      ⊢ iprop((own c (srcP i n) fullShare X -∗ wp frame (wpE (defs₀ (F := F)) 𝒱₀ (c : Thread nD τ) none) Set.univ (k X) Q)
          -∗ wp frame (wpE (defs₀ (F := F)) 𝒱₀ (c : Thread nD τ) none) Set.univ
            (.op (.load A (Rect.unit (s := S4x512x1024) o S1x512x512.size ino).toLoadRect hl) k) Q) := by
  subst hA ho
  exact load_piece c (acc (dir i)) (accR (srcSlot n) (half i)) (fun _ => rfl) fullShare X

/-- The device's own finished pieces of a direction, still being sent, are copied into the result. -/
theorem slab_step (d : Fin 2) (i i' : Fin 4) (hi : i = i₀ d) (hi' : i' = i₁ d) (c g : Dev nD) (hg : g = toward d c) (D : Finset (Dev nD × Fin 4)) (s r e : ℕ) (hs : 3 < s)
    {A : Memref sig .tc .vmem S4x512x1024 .bf16} (hA : A = acc d)
    {o : Fin 3 → ℕ} {ino : ∀ x, o x + S1x512x1024.size x ≤ S4x512x1024.size x} (ho : o = ![1, 0, 0])
    {M : Memref sig .tc .vmem S2048x2048 .bf16} (hM : M = outM) {p : Fin 2 → ℕ} {inp : ∀ x, p x + S512x1024.size x ≤ S2048x2048.size x} (hp : p = ![512 * g.val, 1024 * d.val])
    {f : Vec F S1x512x1024 .bf16 → Vec F S512x1024 .bf16} (hf : f = k0_pay33)
    {hl : A.view.LoadsAt (Rect.unit (s := S4x512x1024) o S1x512x1024.size ino).toLoadRect}
    {hl' : M.view.LoadsAt (Rect.unit (s := S2048x2048) p S512x1024.size inp).toLoadRect} {hx : (M.access (Rect.unit (s := S2048x2048) p S512x1024.size inp)).Stores Finset.univ}
    {hm : Finset.univ = Finset.univ ∨ ∀ x, (Rect.unit (s := S2048x2048) p S512x1024.size inp).stride x = 1}
    {α : Type} {Q : α → sProp 𝕄} {k : PUnit → Prog (TpuEff nD τ sig (Elt F) Λ₀ .tc) α} :
    iprop(S a b i s r e 0 c ∗ S a b i' s r e 0 c ∗ OutP a b c D)
      ⊢ iprop(((S a b i s r e 0 c ∗ S a b i' s r e 0 c ∗ OutP a b c (insert (g, i) (insert (g, i') D)))
            -∗ wp frame (wpE (defs₀ (F := F)) 𝒱₀ (c : Thread nD τ) none) Set.univ (k ⟨⟩) Q)
          -∗ wp frame (wpE (defs₀ (F := F)) 𝒱₀ (c : Thread nD τ) none) Set.univ
            (.op (.load A (Rect.unit (s := S4x512x1024) o S1x512x1024.size ino).toLoadRect hl) fun x =>
              .op (.load M (Rect.unit (s := S2048x2048) p S512x1024.size inp).toLoadRect hl') fun _ =>
              .op (.store M (Rect.unit (s := S2048x2048) p S512x1024.size inp) (f x) Finset.univ hx hm) k) Q) := by
  subst hi hi' hA ho hf hg
  have hd : ∀ d : Fin 2, dir (i₀ d) = d ∧ half (i₀ d) = 0 ∧ dir (i₁ d) = d ∧ half (i₁ d) = 1 := by decide
  obtain ⟨h1, h2, h3, h4⟩ := hd d
  have e0 : val a b (i₀ d) 3 c = piece a b (toward d c) (i₀ d) := by
    unfold piece; rw [show up (i₀ d) (toward d c) = c from by unfold up; rw [h1]; exact from_toward _ _]
  have e1 : val a b (i₁ d) 3 c = piece a b (toward d c) (i₁ d) := by
    unfold piece; rw [show up (i₁ d) (toward d c) = c from by unfold up; rw [h3]; exact from_toward _ _]
  have q0 : (own c (srcP (i₀ d) 3) fullShare.left (val a b (i₀ d) (3 : Fin 6).val c) : sProp 𝕄)
      = own c (accP d 1 0) fullShare.left (halfV 0 (glue (val a b (i₀ d) 3 c) (val a b (i₁ d) 3 c))) := by
    rw [halfV_glue0]; unfold srcP; rw [h1, h2]; rfl
  have q1 : (own c (srcP (i₁ d) 3) fullShare.left (val a b (i₁ d) (3 : Fin 6).val c) : sProp 𝕄)
      = own c (accP d 1 1) fullShare.left (halfV 1 (glue (val a b (i₀ d) 3 c) (val a b (i₁ d) 3 c))) := by
    rw [halfV_glue1]; unfold srcP; rw [h3, h4]; rfl
  iintro ⟨HS, HS', HD⟩ Hk
  ihave HS := (lend a b (i₀ d) 3 c s r e (by decide) hs) $$ HS
  ihave HS' := (lend a b (i₁ d) 3 c s r e (by decide) hs) $$ HS'
  icases HS with ⟨Hp, HS⟩
  icases HS' with ⟨Hp', HS'⟩
  ihave Hp := (BIBase.Entails.of_eq q0) $$ Hp
  ihave Hp' := (BIBase.Entails.of_eq q1) $$ Hp'
  ihave Hs := (slot_halves c d 1 fullShare.left (glue (val a b (i₀ d) 3 c) (val a b (i₁ d) 3 c))).2 $$ [Hp Hp']
  · isplitl [Hp] <;> iassumption
  iapply (load_piece c (acc d) (slotR 1) (fun _ => rfl) fullShare.left (glue (val a b (i₀ d) 3 c) (val a b (i₁ d) 3 c))) $$ Hs
  iintro Hs
  ihave Hs := (slot_halves c d 1 fullShare.left (glue (val a b (i₀ d) 3 c) (val a b (i₁ d) 3 c))).1 $$ Hs
  icases Hs with ⟨Hp, Hp'⟩
  ihave Hp := (BIBase.Entails.of_eq q0.symm) $$ Hp
  ihave Hp' := (BIBase.Entails.of_eq q1.symm) $$ Hp'
  ihave HS := HS $$ Hp
  ihave HS' := HS' $$ Hp'
  iapply (out_slab a b c D d (toward d c) hM hp (congrArg₂ (fun x y => k0_pay33 (glue x y)) e0 e1)) $$ HD
  iintro HD
  iapply Hk
  isplitl [HS]; · iexact HS
  isplitl [HS']; · iexact HS'
  iexact HD

/-! ## The parts -/

theorem ret_bind (c : Dev nD) {A α : Type} {Q : α → sProp 𝕄} (x : A) (k : A → Prog (TpuEff nD τ sig (Elt F) Λ₀ .tc) α) :
    wp frame (wpE (defs₀ (F := F)) 𝒱₀ (c : Thread nD τ) none) Set.univ (k x) Q
      ⊢ wp frame (wpE (defs₀ (F := F)) 𝒱₀ (c : Thread nD τ) none) Set.univ ((Prog.ret x).bind k) Q := .rfl

/-- What the piece of step `n` holds before the transfer before it arrives, on the streams to the left. -/
theorem body_d0 (c : Dev nD) (v7 : BitVec 32) {α : Type} {Q : α → sProp 𝕄} {k : (Σ' (v275 : BitVec 32), BitVec 32) → Prog (TpuEff nD τ sig (Elt F) Λ₀ .tc) α} :
    ctx a b K ⊢ iprop(S a b 0 2 1 1 0 c -∗ (sp (F := F) 1 3 c ∗ sp (F := F) 3 3 c) -∗ fresh a b 2 c 0 -∗ owed c 8
      -∗ (∀ x, ((S a b 0 2 2 2 0 c ∗ (fresh a b 3 c 1 ∗ fresh a b 3 c 3) ∗ own c (srcP 0 2) fullShare (val a b 0 2 c) ∗ owed c 8)
          -∗ wp frame (wpE (defs₀ (F := F)) 𝒱₀ (c : Thread nD τ) none) Set.univ (k x) Q))
      -∗ wp frame (wpE (defs₀ (F := F)) 𝒱₀ (c : Thread nD τ) none) Set.univ
          ((on (k0_part10 (F := F)) v7 (k0_pay1 (b c)) (rows (chunk 1 1 c) (a c))).bind k) Q) := by
  dsimp only [fresh, owed]
  iintro #Hctx HS0 Hl Hf0 HO Hk
  rw [k0_part10_eq_skeleton]
  unfold on k0_part10_skel
  simp only [Prog.lift, Prog.bind_op, Prog.bind_ret, Prog.pure_eq_ret]
  iapply (put_slot a b 1 3 rfl rfl rfl 3 c rfl rfl rfl) $$ Hl
  iintro ⟨Hh1, Hh3⟩
  iapply (rs_step a b K 0 1 c (n := 2) rfl rfl rfl rfl rfl rfl (credD 0 1) (halfV (half 0) (part a b (dir 0) (srcSlot 2) c)) rfl 2 1 8 rfl rfl (by decide)) $$ Hctx HS0 Hf0 HO
  iintro ⟨HS0, Hf0, HO⟩
  iapply (ret_bind c _ k)
  iapply Hk
  isplitl [HS0]; · iexact HS0
  isplitl [Hh1 Hh3]
  · isplitl [Hh1] <;> iassumption
  isplitl [Hf0]; · iexact Hf0
  iexact HO

set_option maxHeartbeats 1000000 in
/-- The second accumulations and the third transfers of the streams 0, 1 and 2. -/
theorem body_d (c : Dev nD) (v5 v7 v275 c0 : BitVec 32) {α : Type} {Q : α → sProp 𝕄} {k : PUnit → Prog (TpuEff nD τ sig (Elt F) Λ₀ .tc) α} :
    ctx a b K ⊢ iprop(S a b 0 2 2 2 0 c -∗ S a b 1 2 1 1 0 c -∗ S a b 2 2 1 1 0 c -∗ S a b 3 2 1 1 0 c
      -∗ own c (srcP 0 2) fullShare (val a b 0 2 c) -∗ fresh a b 2 c 1 -∗ fresh a b 2 c 2 -∗ fresh a b 2 c 3 -∗ owed c 8
      -∗ ((S a b 0 3 2 2 0 c ∗ S a b 1 3 2 2 0 c ∗ S a b 2 3 2 2 0 c ∗ S a b 3 2 2 2 0 c ∗ own c (srcP 3 2) fullShare (val a b 3 2 c) ∗ owed c 11)
          -∗ wp frame (wpE (defs₀ (F := F)) 𝒱₀ (c : Thread nD τ) none) Set.univ (k ⟨⟩) Q)
      -∗ wp frame (wpE (defs₀ (F := F)) 𝒱₀ (c : Thread nD τ) none) Set.univ
          ((on (k0_part11 (F := F)) c v5 v275 c0).bind fun c1 =>
            (on (k0_part12 (F := F)) c v5 v7 c1).bind fun _ =>
            (on (k0_part13 (F := F)) c v5 v7).bind k) Q) := by
  dsimp only [fresh, owed]
  iintro #Hctx HS0 HS1 HS2 HS3 Hf0 Hf1 Hf2 Hf3 HO Hk
  rw [k0_part11_eq_skeleton, k0_part12_eq_skeleton, k0_part13_eq_skeleton]
  unfold on k0_part11_skel k0_part12_skel k0_part13_skel
  simp only [Prog.lift, Prog.bind_op, Prog.bind_ret, Prog.pure_eq_ret]
  iapply (send_step a b K 0 2 c (Fin.ext (k0_dev11_eq c)) rfl rfl rfl rfl 2 2 8 rfl rfl (val a b 0 2 c) rfl) $$ Hctx HS0 Hf0 HO
  iintro ⟨HS0, HO⟩
  iapply (rs_step a b K 1 1 c (n := 2) rfl rfl rfl rfl rfl rfl (credD 1 1) (halfV (half 1) (part a b (dir 1) (srcSlot 2) c)) rfl 2 1 9 rfl rfl (by decide)) $$ Hctx HS1 Hf1 HO
  iintro ⟨HS1, Hf1, HO⟩
  iapply (send_step a b K 1 2 c (Fin.ext (k0_dev12_eq c)) rfl rfl rfl rfl 2 2 9 rfl rfl (addP (halfV (half 1) (part a b (dir 1) (srcSlot 2) c)) (val a b 1 (1 : Fin 3).val (up 1 c))) rfl) $$ Hctx HS1 Hf1 HO
  iintro ⟨HS1, HO⟩
  iapply (rs_step a b K 2 1 c (n := 2) rfl rfl rfl rfl rfl rfl (credD 2 1) (halfV (half 2) (part a b (dir 2) (srcSlot 2) c)) rfl 2 1 10 rfl rfl (by decide)) $$ Hctx HS2 Hf2 HO
  iintro ⟨HS2, Hf2, HO⟩
  iapply (send_step a b K 2 2 c (Fin.ext (k0_dev13_eq c)) rfl rfl rfl rfl 2 2 10 rfl rfl (addP (halfV (half 2) (part a b (dir 2) (srcSlot 2) c)) (val a b 2 (1 : Fin 3).val (up 2 c))) rfl) $$ Hctx HS2 Hf2 HO
  iintro ⟨HS2, HO⟩
  iapply (rs_step a b K 3 1 c (n := 2) rfl rfl rfl rfl rfl rfl (credD 3 1) (halfV (half 3) (part a b (dir 3) (srcSlot 2) c)) rfl 2 1 11 rfl rfl (by decide)) $$ Hctx HS3 Hf3 HO
  iintro ⟨HS3, Hf3, HO⟩
  iapply Hk
  isplitl [HS0]; · iexact HS0
  isplitl [HS1]; · iexact HS1
  isplitl [HS2]; · iexact HS2
  isplitl [HS3]; · iexact HS3
  isplitl [Hf3]; · iexact Hf3
  iexact HO

/-- The piece of step 3 once it is accumulated, before the clamp. -/
abbrev summed (c : Dev nD) (i : Fin 4) : Vec F S1x512x512 .bf16 := addP (halfV (half i) (part a b (dir i) (srcSlot 3) c)) (val a b i (2 : Fin 3).val (up i c))

set_option maxHeartbeats 1000000 in
/-- The last accumulations. -/
theorem body_e (c : Dev nD) (v5 v7 : BitVec 32) {α : Type} {Q : α → sProp 𝕄} {k : Vec F S1x512x512 .bf16 → Prog (TpuEff nD τ sig (Elt F) Λ₀ .tc) α} :
    ctx a b K ⊢ iprop(S a b 0 3 2 2 0 c -∗ S a b 1 3 2 2 0 c -∗ S a b 2 3 2 2 0 c -∗ S a b 3 2 2 2 0 c
      -∗ own c (srcP 3 2) fullShare (val a b 3 2 c) -∗ each (fresh a b 3 c) -∗ owed c 11
      -∗ ((each (fun i => S a b i 3 3 3 0 c) ∗ each (fun i => own c (srcP i 3) fullShare (summed a b c i)) ∗ owed c 12)
          -∗ wp frame (wpE (defs₀ (F := F)) 𝒱₀ (c : Thread nD τ) none) Set.univ (k (summed a b c 0)) Q)
      -∗ wp frame (wpE (defs₀ (F := F)) 𝒱₀ (c : Thread nD τ) none) Set.univ
          ((on (k0_part14 (F := F)) c v5 v7).bind fun _ =>
            (on (k0_part15 (F := F)) v5 v7).bind fun _ =>
            (on (k0_part16 (F := F)) v5).bind k) Q) := by
  dsimp only [each, fresh, owed]
  iintro #Hctx HS0 HS1 HS2 HS3 Hg3 ⟨Hf0, Hf1, Hf2, Hf3⟩ HO Hk
  rw [k0_part14_eq_skeleton, k0_part15_eq_skeleton, k0_part16_eq_skeleton]
  unfold on k0_part14_skel k0_part15_skel k0_part16_skel
  simp only [Prog.lift, Prog.bind_op, Prog.bind_ret, Prog.pure_eq_ret]
  iapply (send_step a b K 3 2 c (Fin.ext (k0_dev14_eq c)) rfl rfl rfl rfl 2 2 11 rfl rfl (val a b 3 2 c) rfl) $$ Hctx HS3 Hg3 HO
  iintro ⟨HS3, HO⟩
  iapply (rs_step a b K 0 2 c (n := 3) rfl rfl rfl rfl rfl rfl (credD 0 2) (halfV (half 0) (part a b (dir 0) (srcSlot 3) c)) rfl 3 2 12 rfl rfl (by decide)) $$ Hctx HS0 Hf0 HO
  iintro ⟨HS0, Hf0, HO⟩
  iapply (rs_step a b K 1 2 c (n := 3) rfl rfl rfl rfl rfl rfl (credD 1 2) (halfV (half 1) (part a b (dir 1) (srcSlot 3) c)) rfl 3 2 12 rfl rfl (by decide)) $$ Hctx HS1 Hf1 HO
  iintro ⟨HS1, Hf1, HO⟩
  iapply (rs_step a b K 2 2 c (n := 3) rfl rfl rfl rfl rfl rfl (credD 2 2) (halfV (half 2) (part a b (dir 2) (srcSlot 3) c)) rfl 3 2 12 rfl rfl (by decide)) $$ Hctx HS2 Hf2 HO
  iintro ⟨HS2, Hf2, HO⟩
  iapply (rs_step a b K 3 2 c (n := 3) rfl rfl rfl rfl rfl rfl (credD 3 2) (halfV (half 3) (part a b (dir 3) (srcSlot 3) c)) rfl 3 2 12 rfl rfl (by decide)) $$ Hctx HS3 Hf3 HO
  iintro ⟨HS3, Hf3, HO⟩
  iapply (load_src 0 3 c rfl rfl (summed a b c 0)) $$ Hf0
  iintro Hf0
  iapply Hk
  isplitl [HS0 HS1 HS2 HS3]
  · isplitl [HS0]; · iexact HS0
    isplitl [HS1]; · iexact HS1
    isplitl [HS2] <;> iassumption
  isplitl [Hf0 Hf1 Hf2 Hf3]
  · isplitl [Hf0]; · iexact Hf0
    isplitl [Hf1]; · iexact Hf1
    isplitl [Hf2] <;> iassumption
  iexact HO

set_option maxHeartbeats 1000000 in
/-- The clamp, the first transfers of the all-gather, and the device's own piece. -/
theorem body_f (c : Dev nD) (v2 v5 v7 : BitVec 32) {α : Type} {Q : α → sProp 𝕄} {k : PUnit → Prog (TpuEff nD τ sig (Elt F) Λ₀ .tc) α} :
    ctx a b K ⊢ iprop(each (fun i => S a b i 3 3 3 0 c) -∗ each (fun i => own c (srcP i 3) fullShare (summed a b c i)) -∗ OutP a b c ∅ -∗ owed c 12
      -∗ ((each (fun i => S a b i 4 3 3 0 c) ∗ OutP a b c (insert (down 1 c, 1) (insert (down 1 c, 3) (insert (down 0 c, 0) (insert (down 0 c, 2) ∅)))) ∗ owed c 16)
          -∗ wp frame (wpE (defs₀ (F := F)) 𝒱₀ (c : Thread nD τ) none) Set.univ (k ⟨⟩) Q)
      -∗ wp frame (wpE (defs₀ (F := F)) 𝒱₀ (c : Thread nD τ) none) Set.univ
          ((on (k0_part17 (F := F)) c v5 v7 (summed a b c 0)).bind fun _ =>
            (on (k0_part18 (F := F)) c v7).bind fun v481 =>
            (on (k0_part19 (F := F)) c v2 v5 v481).bind k) Q) := by
  dsimp only [each, owed]
  iintro #Hctx ⟨HS0, HS1, HS2, HS3⟩ ⟨Hf0, Hf1, Hf2, Hf3⟩ HD HO Hk
  rw [k0_part17_eq_skeleton, k0_part18_eq_skeleton, k0_part19_eq_skeleton]
  unfold on k0_part17_skel k0_part18_skel k0_part19_skel
  simp only [Prog.lift, Prog.bind_op, Prog.bind_ret, Prog.pure_eq_ret]
  ihave Hf0 := (forget c (srcP 0 3) (summed a b c 0)) $$ Hf0
  iapply (put_src 0 3 c rfl rfl (val a b 0 3 c) rfl) $$ Hf0
  iintro Hf0
  iapply (send_step a b K 0 3 c (Fin.ext (k0_dev15_eq c)) rfl rfl rfl rfl 3 3 12 rfl rfl (val a b 0 3 c) rfl) $$ Hctx HS0 Hf0 HO
  iintro ⟨HS0, HO⟩
  iapply (upd_src 1 3 c rfl rfl (summed a b c 1) (g := reluP) rfl) $$ Hf1
  iintro Hf1
  iapply (send_step a b K 1 3 c (Fin.ext (k0_dev16_eq c)) rfl rfl rfl rfl 3 3 13 rfl rfl (reluP (summed a b c 1)) rfl) $$ Hctx HS1 Hf1 HO
  iintro ⟨HS1, HO⟩
  iapply (upd_src 2 3 c rfl rfl (summed a b c 2) (g := reluP) rfl) $$ Hf2
  iintro Hf2
  iapply (send_step a b K 2 3 c (Fin.ext (k0_dev17_eq c)) rfl rfl rfl rfl 3 3 14 rfl rfl (reluP (summed a b c 2)) rfl) $$ Hctx HS2 Hf2 HO
  iintro ⟨HS2, HO⟩
  iapply (upd_src 3 3 c rfl rfl (summed a b c 3) (g := reluP) rfl) $$ Hf3
  iintro Hf3
  iapply (send_step a b K 3 3 c (Fin.ext (k0_dev18_eq c)) rfl rfl rfl rfl 3 3 15 rfl rfl (reluP (summed a b c 3)) rfl) $$ Hctx HS3 Hf3 HO
  iintro ⟨HS3, HO⟩
  iapply (slab_step a b 0 0 2 rfl rfl c (down 0 c) rfl ∅ 4 3 3 (by decide) rfl rfl rfl (k0_off3_eq c) rfl) $$ [HS0 HS2 HD]
  · isplitl [HS0]; · iexact HS0
    isplitl [HS2] <;> iassumption
  iintro ⟨HS0, HS2, HD⟩
  iapply (slab_step a b 1 1 3 rfl rfl c (down 1 c) rfl _ 4 3 3 (by decide) rfl rfl rfl (k0_off4_eq c) rfl) $$ [HS1 HS3 HD]
  · isplitl [HS1]; · iexact HS1
    isplitl [HS3] <;> iassumption
  iintro ⟨HS1, HS3, HD⟩
  iapply Hk
  isplitl [HS0 HS1 HS2 HS3]
  · isplitl [HS0]; · iexact HS0
    isplitl [HS1]; · iexact HS1
    isplitl [HS2] <;> iassumption
  isplitl [HD]; · iexact HD
  iexact HO

end Cert.RingProof

end
-- ==== Proof.BodyD.lean ====
/-
# The body: the all-gather, and the waits for the transfers' ends
-/
module

public import proofs.«01_k».proof.Proof.BodyC

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (a : Dev nD → Vec F S2048x1024 .bf16) (b : Dev nD → Vec F S1024x2048 .bf16)
variable (K : Dev nD × KI → ℕ)

/-! ## Where the arriving pieces go -/

theorem off5_at (t : Fin 3) (g c : Dev nD) (h : (c.val + 4 - t.val) % 4 = g.val) : k0_off5 c (BitVec.ofNat 32 t.val) = ![512 * g.val, 0] := by
  rw [k0_off5_eq c t, ← h]
theorem off6_at (t : Fin 3) (g c : Dev nD) (h : (c.val + t.val) % 4 = g.val) : k0_off6 c (BitVec.ofNat 32 t.val) = ![512 * g.val, 1024] := by
  rw [k0_off6_eq c t, ← h]
theorem off7_at (t : Fin 3) (g c : Dev nD) (h : (c.val + 4 - t.val) % 4 = g.val) : k0_off7 c (BitVec.ofNat 32 t.val) = ![512 * g.val, 512] := by
  rw [k0_off7_eq c t, ← h]
theorem off8_at (t : Fin 3) (g c : Dev nD) (h : (c.val + t.val) % 4 = g.val) : k0_off8 c (BitVec.ofNat 32 t.val) = ![512 * g.val, 1536] := by
  rw [k0_off8_eq c t, ← h]

theorem turns : ∀ c : Dev nD, ((c.val + 4 - 0) % 4 = c.val ∧ (c.val + 4 - 1) % 4 = (up 0 c).val ∧ (c.val + 4 - 2) % 4 = (up 0 (up 0 c)).val)
    ∧ ((c.val + 0) % 4 = c.val ∧ (c.val + 1) % 4 = (up 1 c).val ∧ (c.val + 2) % 4 = (up 1 (up 1 c)).val) := by decide

/-! ## The parts -/

set_option maxHeartbeats 1000000 in
/-- The first finished pieces of other devices arrive and go on. -/
theorem body_g (c : Dev nD) (v2 v5 v7 : BitVec 32) (D : Finset (Dev nD × Fin 4)) {α : Type} {Q : α → sProp 𝕄} {k : PUnit → Prog (TpuEff nD τ sig (Elt F) Λ₀ .tc) α} :
    ctx a b K ⊢ iprop(each (fun i => S a b i 4 3 3 0 c) -∗ OutP a b c D -∗ owed c 16
      -∗ ((each (fun i => S a b i 5 4 3 0 c) ∗ OutP a b c (insert (c, 3) (insert (c, 2) (insert (c, 1) (insert (c, 0) D)))) ∗ owed c 20)
          -∗ wp frame (wpE (defs₀ (F := F)) 𝒱₀ (c : Thread nD τ) none) Set.univ (k ⟨⟩) Q)
      -∗ wp frame (wpE (defs₀ (F := F)) 𝒱₀ (c : Thread nD τ) none) Set.univ
          ((on (k0_part20 (F := F)) c v2 v7).bind fun w =>
            (on (k0_part21 (F := F)) c v2 v5 w).bind fun _ =>
            (on (k0_part22 (F := F)) c v2 v7).bind fun w =>
            (on (k0_part23 (F := F)) c v2 v5 w).bind k) Q) := by
  dsimp only [each, owed]
  iintro #Hctx ⟨HS0, HS1, HS2, HS3⟩ HD HO Hk
  rw [k0_part20_eq_skeleton, k0_part21_eq_skeleton, k0_part22_eq_skeleton, k0_part23_eq_skeleton]
  unfold on k0_part20_skel k0_part21_skel k0_part22_skel k0_part23_skel
  simp only [Prog.lift, Prog.bind_op, Prog.bind_ret, Prog.pure_eq_ret]
  iapply (ag_step a b K 0 0 c c rfl _ rfl (credD 0 3) (Fin.ext (k0_dev19_eq c)) rfl rfl rfl rfl rfl rfl rfl (off5_at 0 c c (turns c).1.1) rfl 4 3 16 17 rfl rfl rfl rfl) $$ Hctx HS0 HD HO
  iintro ⟨HS0, HD, HO⟩
  iapply (ag_step a b K 1 0 c c rfl _ rfl (credD 1 3) (Fin.ext (k0_dev20_eq c)) rfl rfl rfl rfl rfl rfl rfl (off6_at 0 c c (turns c).2.1) rfl 4 3 17 18 rfl rfl rfl rfl) $$ Hctx HS1 HD HO
  iintro ⟨HS1, HD, HO⟩
  iapply (ag_step a b K 2 0 c c rfl _ rfl (credD 2 3) (Fin.ext (k0_dev21_eq c)) rfl rfl rfl rfl rfl rfl rfl (off7_at 0 c c (turns c).1.1) rfl 4 3 18 19 rfl rfl rfl rfl) $$ Hctx HS2 HD HO
  iintro ⟨HS2, HD, HO⟩
  iapply (ag_step a b K 3 0 c c rfl _ rfl (credD 3 3) (Fin.ext (k0_dev22_eq c)) rfl rfl rfl rfl rfl rfl rfl (off8_at 0 c c (turns c).2.1) rfl 4 3 19 20 rfl rfl rfl rfl) $$ Hctx HS3 HD HO
  iintro ⟨HS3, HD, HO⟩
  iapply Hk
  isplitl [HS0 HS1 HS2 HS3]
  · isplitl [HS0]; · iexact HS0
    isplitl [HS1]; · iexact HS1
    isplitl [HS2] <;> iassumption
  isplitl [HD]; · iexact HD
  iexact HO

set_option maxHeartbeats 1000000 in
/-- The second finished pieces of other devices arrive and go on. -/
theorem body_h (c : Dev nD) (v2 v5 v7 : BitVec 32) (D : Finset (Dev nD × Fin 4)) {α : Type} {Q : α → sProp 𝕄} {k : PUnit → Prog (TpuEff nD τ sig (Elt F) Λ₀ .tc) α} :
    ctx a b K ⊢ iprop(each (fun i => S a b i 5 4 3 0 c) -∗ OutP a b c D -∗ owed c 20
      -∗ ((each (fun i => S a b i 6 5 3 0 c) ∗ OutP a b c (insert (up 3 c, 3) (insert (up 2 c, 2) (insert (up 1 c, 1) (insert (up 0 c, 0) D)))) ∗ owed c 24)
          -∗ wp frame (wpE (defs₀ (F := F)) 𝒱₀ (c : Thread nD τ) none) Set.univ (k ⟨⟩) Q)
      -∗ wp frame (wpE (defs₀ (F := F)) 𝒱₀ (c : Thread nD τ) none) Set.univ
          ((on (k0_part24 (F := F)) c v2 v7).bind fun w =>
            (on (k0_part25 (F := F)) c v2 v5 w).bind fun _ =>
            (on (k0_part26 (F := F)) c v2 v7).bind fun w =>
            (on (k0_part27 (F := F)) c v2 v5 w).bind k) Q) := by
  dsimp only [each, owed]
  iintro #Hctx ⟨HS0, HS1, HS2, HS3⟩ HD HO Hk
  rw [k0_part24_eq_skeleton, k0_part25_eq_skeleton, k0_part26_eq_skeleton, k0_part27_eq_skeleton]
  unfold on k0_part24_skel k0_part25_skel k0_part26_skel k0_part27_skel
  simp only [Prog.lift, Prog.bind_op, Prog.bind_ret, Prog.pure_eq_ret]
  iapply (ag_step a b K 0 1 c (up 0 c) rfl _ rfl (credD 0 4) (Fin.ext (k0_dev23_eq c)) rfl rfl rfl rfl rfl rfl rfl (off5_at 1 (up 0 c) c (turns c).1.2.1) rfl 5 4 20 21 rfl rfl rfl rfl) $$ Hctx HS0 HD HO
  iintro ⟨HS0, HD, HO⟩
  iapply (ag_step a b K 1 1 c (up 1 c) rfl _ rfl (credD 1 4) (Fin.ext (k0_dev24_eq c)) rfl rfl rfl rfl rfl rfl rfl (off6_at 1 (up 1 c) c (turns c).2.2.1) rfl 5 4 21 22 rfl rfl rfl rfl) $$ Hctx HS1 HD HO
  iintro ⟨HS1, HD, HO⟩
  iapply (ag_step a b K 2 1 c (up 2 c) rfl _ rfl (credD 2 4) (Fin.ext (k0_dev25_eq c)) rfl rfl rfl rfl rfl rfl rfl (off7_at 1 (up 2 c) c (turns c).1.2.1) rfl 5 4 22 23 rfl rfl rfl rfl) $$ Hctx HS2 HD HO
  iintro ⟨HS2, HD, HO⟩
  iapply (ag_step a b K 3 1 c (up 3 c) rfl _ rfl (credD 3 4) (Fin.ext (k0_dev26_eq c)) rfl rfl rfl rfl rfl rfl rfl (off8_at 1 (up 3 c) c (turns c).2.2.1) rfl 5 4 23 24 rfl rfl rfl rfl) $$ Hctx HS3 HD HO
  iintro ⟨HS3, HD, HO⟩
  iapply Hk
  isplitl [HS0 HS1 HS2 HS3]
  · isplitl [HS0]; · iexact HS0
    isplitl [HS1]; · iexact HS1
    isplitl [HS2] <;> iassumption
  isplitl [HD]; · iexact HD
  iexact HO

set_option maxHeartbeats 1000000 in
/-- The last finished pieces arrive; the first transfer's end is waited for. -/
theorem body_i (c : Dev nD) (v2 v5 v7 : BitVec 32) (D : Finset (Dev nD × Fin 4)) {α : Type} {Q : α → sProp 𝕄} {k : PUnit → Prog (TpuEff nD τ sig (Elt F) Λ₀ .tc) α} :
    ctx a b K ⊢ iprop(each (fun i => S a b i 6 5 3 0 c) -∗ OutP a b c D -∗ owed c 24
      -∗ ((S a b 0 6 6 3 1 c ∗ S a b 1 6 6 3 0 c ∗ S a b 2 6 6 3 0 c ∗ S a b 3 6 6 3 0 c) ∗ each (fun i => some' (F := F) c (accP (dir i) 2 (half i)))
          ∗ OutP a b c (insert (up 3 (up 3 c), 3) (insert (up 2 (up 2 c), 2) (insert (up 1 (up 1 c), 1) (insert (up 0 (up 0 c), 0) D)))) ∗ owed c 24
          -∗ wp frame (wpE (defs₀ (F := F)) 𝒱₀ (c : Thread nD τ) none) Set.univ (k ⟨⟩) Q)
      -∗ wp frame (wpE (defs₀ (F := F)) 𝒱₀ (c : Thread nD τ) none) Set.univ
          ((on (k0_part28 (F := F)) c v2 v5 v7).bind fun w =>
            (on (k0_part29 (F := F)) c v2 v5 v7 w).bind fun w =>
            (on (k0_part30 (F := F)) c v2 w).bind k) Q) := by
  dsimp only [each, owed]
  iintro #Hctx ⟨HS0, HS1, HS2, HS3⟩ HD HO Hk
  rw [k0_part28_eq_skeleton, k0_part29_eq_skeleton, k0_part30_eq_skeleton]
  unfold on k0_part28_skel k0_part29_skel k0_part30_skel
  simp only [Prog.lift, Prog.bind_op, Prog.bind_ret, Prog.pure_eq_ret]
  iapply (last_step a b K 0 c (up 0 (up 0 c)) rfl _ rfl (credD 0 5) rfl rfl rfl (off5_at 2 (up 0 (up 0 c)) c (turns c).1.2.2) rfl) $$ Hctx HS0 HD HO
  iintro ⟨HS0, Hq0, HD, HO⟩
  iapply (last_step a b K 1 c (up 1 (up 1 c)) rfl _ rfl (credD 1 5) rfl rfl rfl (off6_at 2 (up 1 (up 1 c)) c (turns c).2.2.2) rfl) $$ Hctx HS1 HD HO
  iintro ⟨HS1, Hq1, HD, HO⟩
  iapply (last_step a b K 2 c (up 2 (up 2 c)) rfl _ rfl (credD 2 5) rfl rfl rfl (off7_at 2 (up 2 (up 2 c)) c (turns c).1.2.2) rfl) $$ Hctx HS2 HD HO
  iintro ⟨HS2, Hq2, HD, HO⟩
  iapply (last_step a b K 3 c (up 3 (up 3 c)) rfl _ rfl (credD 3 5) rfl rfl rfl (off8_at 2 (up 3 (up 3 c)) c (turns c).2.2.2) rfl) $$ Hctx HS3 HD HO
  iintro ⟨HS3, Hq3, HD, HO⟩
  iapply (swait_step a b K 0 0 c rfl (credS 0 0) 0 rfl) $$ Hctx HS0 HO
  iintro ⟨HS0, HO⟩
  iapply Hk
  isplitl [HS0 HS1 HS2 HS3]
  · isplitl [HS0]; · iexact HS0
    isplitl [HS1]; · iexact HS1
    isplitl [HS2] <;> iassumption
  isplitl [Hq0 Hq1 Hq2 Hq3]
  · isplitl [Hq0]; · iexact Hq0
    isplitl [Hq1]; · iexact Hq1
    isplitl [Hq2] <;> iassumption
  isplitl [HD]; · iexact HD
  iexact HO

set_option maxHeartbeats 1000000 in
/-- The ends of the transfers, but for the last three. -/
theorem body_j (c : Dev nD) {α : Type} {Q : α → sProp 𝕄} {k : PUnit → Prog (TpuEff nD τ sig (Elt F) Λ₀ .tc) α} :
    ctx a b K ⊢ iprop(S a b 0 6 6 3 1 c -∗ S a b 1 6 6 3 0 c -∗ S a b 2 6 6 3 0 c -∗ S a b 3 6 6 3 0 c -∗ owed c 24
      -∗ ((S a b 0 6 6 3 6 c ∗ S a b 1 6 6 3 5 c ∗ S a b 2 6 6 3 5 c ∗ S a b 3 6 6 3 5 c ∗ owed c 24)
          -∗ wp frame (wpE (defs₀ (F := F)) 𝒱₀ (c : Thread nD τ) none) Set.univ (k ⟨⟩) Q)
      -∗ wp frame (wpE (defs₀ (F := F)) 𝒱₀ (c : Thread nD τ) none) Set.univ
          ((on (k0_part31 (F := F))).bind fun _ =>
            (on (k0_part32 (F := F))).bind fun _ =>
            (on (k0_part33 (F := F))).bind fun _ =>
            (on (k0_part34 (F := F))).bind fun _ =>
            (on (k0_part35 (F := F))).bind fun _ =>
            (on (k0_part36 (F := F))).bind k) Q) := by
  dsimp only [owed]
  iintro #Hctx HS0 HS1 HS2 HS3 HO Hk
  rw [k0_part31_eq_skeleton, k0_part32_eq_skeleton, k0_part33_eq_skeleton, k0_part34_eq_skeleton, k0_part35_eq_skeleton, k0_part36_eq_skeleton]
  unfold on k0_part31_skel k0_part32_skel k0_part33_skel k0_part34_skel k0_part35_skel k0_part36_skel
  simp only [Prog.lift, Prog.bind_op, Prog.bind_ret, Prog.pure_eq_ret]
  iapply (swait_step a b K 1 0 c rfl (credS 1 0) 0 rfl) $$ Hctx HS1 HO
  iintro ⟨HS1, HO⟩
  iapply (swait_step a b K 2 0 c rfl (credS 2 0) 0 rfl) $$ Hctx HS2 HO
  iintro ⟨HS2, HO⟩
  iapply (swait_step a b K 3 0 c rfl (credS 3 0) 0 rfl) $$ Hctx HS3 HO
  iintro ⟨HS3, HO⟩
  iapply (swait_step a b K 0 1 c rfl (credS 0 1) 1 rfl) $$ Hctx HS0 HO
  iintro ⟨HS0, HO⟩
  iapply (swait_step a b K 1 1 c rfl (credS 1 1) 1 rfl) $$ Hctx HS1 HO
  iintro ⟨HS1, HO⟩
  iapply (swait_step a b K 2 1 c rfl (credS 2 1) 1 rfl) $$ Hctx HS2 HO
  iintro ⟨HS2, HO⟩
  iapply (swait_step a b K 3 1 c rfl (credS 3 1) 1 rfl) $$ Hctx HS3 HO
  iintro ⟨HS3, HO⟩
  iapply (swait_step a b K 0 2 c rfl (credS 0 2) 2 rfl) $$ Hctx HS0 HO
  iintro ⟨HS0, HO⟩
  iapply (swait_step a b K 1 2 c rfl (credS 1 2) 2 rfl) $$ Hctx HS1 HO
  iintro ⟨HS1, HO⟩
  iapply (swait_step a b K 2 2 c rfl (credS 2 2) 2 rfl) $$ Hctx HS2 HO
  iintro ⟨HS2, HO⟩
  iapply (swait_step a b K 3 2 c rfl (credS 3 2) 2 rfl) $$ Hctx HS3 HO
  iintro ⟨HS3, HO⟩
  iapply (swait_step a b K 0 3 c rfl (credS 0 3) 3 rfl) $$ Hctx HS0 HO
  iintro ⟨HS0, HO⟩
  iapply (swait_step a b K 1 3 c rfl (credS 1 3) 3 rfl) $$ Hctx HS1 HO
  iintro ⟨HS1, HO⟩
  iapply (swait_step a b K 2 3 c rfl (credS 2 3) 3 rfl) $$ Hctx HS2 HO
  iintro ⟨HS2, HO⟩
  iapply (swait_step a b K 3 3 c rfl (credS 3 3) 3 rfl) $$ Hctx HS3 HO
  iintro ⟨HS3, HO⟩
  iapply (swait_step a b K 0 4 c rfl (credS 0 4) 4 rfl) $$ Hctx HS0 HO
  iintro ⟨HS0, HO⟩
  iapply (swait_step a b K 1 4 c rfl (credS 1 4) 4 rfl) $$ Hctx HS1 HO
  iintro ⟨HS1, HO⟩
  iapply (swait_step a b K 2 4 c rfl (credS 2 4) 4 rfl) $$ Hctx HS2 HO
  iintro ⟨HS2, HO⟩
  iapply (swait_step a b K 3 4 c rfl (credS 3 4) 4 rfl) $$ Hctx HS3 HO
  iintro ⟨HS3, HO⟩
  iapply (swait_step a b K 0 5 c rfl (credS 0 5) 5 rfl) $$ Hctx HS0 HO
  iintro ⟨HS0, HO⟩
  iapply Hk
  isplitl [HS0]; · iexact HS0
  isplitl [HS1]; · iexact HS1
  isplitl [HS2]; · iexact HS2
  isplitl [HS3]; · iexact HS3
  iexact HO

end Cert.RingProof

end
-- ==== Proof.BodyE.lean ====
/-
# The whole body
-/
module

public import proofs.«01_k».proof.Proof.BodyD

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (a : Dev nD → Vec F S2048x1024 .bf16) (b : Dev nD → Vec F S1024x2048 .bf16)
variable (K : Dev nD × KI → ℕ)

/-! ## The transfer semaphores -/

/-- The transfer semaphores by stream, step and whether they are receive semaphores. -/
def code (x : (Fin 4 × Fin 6) × Bool) : Fin 48 := if x.2 then recvK x.1.1 x.1.2 else sendK x.1.1 x.1.2
theorem code_bijective : Function.Bijective code := by
  refine (Fintype.bijective_iff_injective_and_card code).mpr ⟨?_, by decide⟩
  rintro ⟨⟨i, n⟩, x⟩ ⟨⟨i', n'⟩, x'⟩ h
  have hv : (code ((i, n), x)).val = (code ((i', n'), x')).val := congrArg Fin.val h
  have hc : ∀ i n x, (code ((i, n), x)).val = (if x then 12 else 0) + 24 * (i.val % 2) + 6 * (i.val / 2) + n.val := fun i n x => by
    cases x
    · show 24 * (i.val % 2) + 6 * (i.val / 2) + n.val = 0 + 24 * (i.val % 2) + 6 * (i.val / 2) + n.val; omega
    · rfl
  rw [hc, hc] at hv
  have hn := n.isLt; have hn' := n'.isLt; have hi := i.isLt; have hi' := i'.isLt
  have hx : (if x then 12 else 0 : ℕ) = 12 * x.toNat := by cases x <;> rfl
  have hx' : (if x' then 12 else 0 : ℕ) = 12 * x'.toNat := by cases x' <;> rfl
  rw [hx, hx'] at hv
  have b1 : x.toNat ≤ 1 := by cases x <;> decide
  have b2 : x'.toNat ≤ 1 := by cases x' <;> decide
  have e1 : n.val = n'.val := by omega
  have e2 : x.toNat = x'.toNat := by omega
  have e3 : i.val = i'.val := by omega
  have e4 : x = x' := by cases x <;> cases x' <;> first | rfl | exact absurd e2 (by decide)
  obtain rfl := Fin.ext e1
  obtain rfl := Fin.ext e3
  subst e4
  rfl

omit [FloatOps F] in
/-- All of them: the two of every stream and step. -/
theorem by_code (Φ : Fin 48 → sProp 𝕄) :
    bigSep Finset.univ Φ = bigSep Finset.univ fun i : Fin 4 => bigSep Finset.univ fun n : Fin 6 => iprop(Φ (sendK i n) ∗ Φ (recvK i n)) := by
  have e2 : ∀ Ψ : Bool → sProp 𝕄, bigSep Finset.univ Ψ = iprop(Ψ false ∗ Ψ true) := fun Ψ => by
    rw [bigSep_univ_eq_bigSepL [false, true] (by decide) (by decide), bigSepL_cons_cons, bigSepL_singleton]; rfl
  rw [bigSep_univ_equiv (Equiv.ofBijective code code_bijective) Φ, bigSep_univ_prod, bigSep_univ_prod]
  refine bigSep_congr fun i _ => bigSep_congr fun n _ => ?_
  rw [e2]
  rfl

omit [FloatOps F] in
theorem fin4 (Φ : Fin 4 → sProp 𝕄) : bigSep Finset.univ Φ = iprop(Φ 0 ∗ Φ 1 ∗ Φ 2 ∗ Φ 3) := by
  rw [bigSep_univ_eq_bigSepL [0, 1, 2, 3] (by decide) (by decide), bigSepL_cons_cons, bigSepL_cons_cons, bigSepL_cons_cons, bigSepL_singleton]; rfl
omit [FloatOps F] in
theorem fin6 (Φ : Fin 6 → sProp 𝕄) : bigSep Finset.univ Φ = iprop(Φ 0 ∗ Φ 1 ∗ Φ 2 ∗ Φ 3 ∗ Φ 4 ∗ Φ 5) := by
  rw [bigSep_univ_eq_bigSepL [0, 1, 2, 3, 4, 5] (by decide) (by decide), bigSepL_cons_cons, bigSepL_cons_cons, bigSepL_cons_cons, bigSepL_cons_cons,
    bigSepL_cons_cons, bigSepL_singleton]; rfl

/-! ## A finished stream -/

section End
variable (i : Fin 4) (c : Dev nD)

/-- The cells of a stream, closed; the pieces it leaves. -/
abbrev closed (n : Fin 6) : sProp 𝕄 := iprop(semVal (sendCell i n c) 0 ∗ semVal (recvCell i n c) 0)
abbrev leaves (n : Fin 6) : sProp 𝕄 := if n.val < 3 then some' (F := F) c (dstP i n) else sp (F := F) i n c

theorem stepAt_end (n : Fin 6) : stepAt a b i 6 6 3 6 c n ⊢ iprop(closed (F := F) i c n ∗ leaves (F := F) i c n) := by
  have hn := n.isLt
  unfold stepAt toks recvSt sendSt kept
  rw [if_neg (by omega), if_neg (by omega), if_pos hn]
  iintro ⟨-, Hr, ⟨Hs, -⟩, Hk⟩
  isplitl [Hr Hs]
  · isplitl [Hs]; · iexact Hs
    iexact Hr
  unfold leaves
  by_cases h : n.val < 3
  · simp only [if_pos h]; iexact Hk
  · simp only [if_neg h, if_pos hn]
    iapply (forget c (srcP i n) _) $$ Hk

theorem S_end : S a b i 6 6 3 6 c ⊢ iprop(bigSep Finset.univ (closed (F := F) i c) ∗ bigSep Finset.univ (leaves (F := F) i c)) := by
  have h : bigSep Finset.univ (stepAt a b i 6 6 3 6 c) ⊢ iprop(bigSep Finset.univ (closed (F := F) i c) ∗ bigSep Finset.univ (leaves (F := F) i c)) := by
    rw [← bigSep_sep']
    exact bigSep_mono fun n _ => stepAt_end a b i c n
  unfold S
  iintro ⟨-, H⟩
  iapply h $$ H

end End

/-- The two streams of a direction leave the accumulator and the communication buffer whole. -/
theorem whole_again (c : Dev nD) (d : Fin 2) :
    iprop((bigSep Finset.univ (leaves (F := F) (i₀ d) c) ∗ some' (F := F) c (accP (dir (i₀ d)) 2 (half (i₀ d))))
      ∗ (bigSep Finset.univ (leaves (F := F) (i₁ d) c) ∗ some' (F := F) c (accP (dir (i₁ d)) 2 (half (i₁ d)))))
      ⊢ (iprop(some' (F := F) c (acc d) ∗ some' (F := F) c (comm d)) : sProp 𝕄) := by
  have e2 : ∀ Φ : Fin 2 → sProp 𝕄, bigSep Finset.univ Φ = iprop(Φ 0 ∗ Φ 1) := bigSep_fin_two
  have e3 : ∀ Φ : Fin 3 → sProp 𝕄, bigSep Finset.univ Φ = iprop(Φ 0 ∗ Φ 1 ∗ Φ 2) := fun Φ => by
    rw [bigSep_univ_eq_bigSepL [0, 1, 2] (by decide) (by decide), bigSepL_cons_cons, bigSepL_cons_cons, bigSepL_singleton]; rfl
  have hd : ∀ d : Fin 2, dir (i₀ d) = d ∧ half (i₀ d) = 0 ∧ dir (i₁ d) = d ∧ half (i₁ d) = 1 := by decide
  obtain ⟨h1, h2, h3, h4⟩ := hd d
  have key : (some' (F := F) c (comm d) : sProp 𝕄) ⊣⊢ _ := comm_pieces c d
  rw [bigSep_univ_prod, e3, e2, e2, e2] at key
  have k0 : ∀ k : Fin 3, (some' (F := F) c (commP d k 0) : sProp 𝕄) = leaves (F := F) (i₀ d) c (lo k) := fun k => by
    unfold leaves
    rw [if_pos (show (lo k).val < 3 from k.isLt), dstP_lo, h1, h2]
  have k1 : ∀ k : Fin 3, (some' (F := F) c (commP d k 1) : sProp 𝕄) = leaves (F := F) (i₁ d) c (lo k) := fun k => by
    unfold leaves
    rw [if_pos (show (lo k).val < 3 from k.isLt), dstP_lo, h3, h4]
  dsimp only at key
  rw [k0, k0, k0, k1, k1, k1] at key
  have k3 : ∀ i, leaves (F := F) i c 3 = sp (F := F) i 3 c := fun i => if_neg (by decide)
  have k4 : ∀ i, leaves (F := F) i c 4 = sp (F := F) i 0 c := fun i => if_neg (by decide)
  have k5 : ∀ i, leaves (F := F) i c 5 = sp (F := F) i 1 c := fun i => if_neg (by decide)
  rw [fin6, fin6, k3, k3, k4, k4, k5, k5]
  iintro ⟨⟨⟨A0, A1, A2, A3, A4, A5⟩, A6⟩, ⟨⟨B0, B1, B2, B3, B4, B5⟩, B6⟩⟩
  isplitl [A3 A4 A5 A6 B3 B4 B5 B6]
  · iapply (acc_cut (F := F) c d (i₀ d) (i₁ d) h2 h4 h1 h3).2
    isplitl [A4 B4]
    · isplitl [A4]; · iexact A4
      iexact B4
    isplitl [A3 B3]
    · isplitl [A3]; · iexact A3
      iexact B3
    isplitl [A6 B6]
    · isplitl [A6]; · iexact A6
      iexact B6
    isplitl [A5]; · iexact A5
    iexact B5
  · iapply key.2
    isplitl [A0 B0]
    · isplitl [A0]; · iexact A0
      iexact B0
    isplitl [A1 B1]
    · isplitl [A1]; · iexact A1
      iexact B1
    isplitl [A2]; · iexact A2
    iexact B2

omit [FloatOps F] in
/-- Every piece of the result is written. -/
theorem all_written : ∀ c : Dev nD, ∀ x,
    x ∈ (insert (up 3 (up 3 c), 3) (insert (up 2 (up 2 c), 2) (insert (up 1 (up 1 c), 1) (insert (up 0 (up 0 c), 0)
      (insert (up 3 c, 3) (insert (up 2 c, 2) (insert (up 1 c, 1) (insert (up 0 c, 0)
      (insert (c, 3) (insert (c, 2) (insert (c, 1) (insert (c, 0)
      (insert (down 1 c, 1) (insert (down 1 c, 3) (insert (down 0 c, 0) (insert (down 0 c, 2) ∅))))))))))))))) : Finset (Dev nD × Fin 4)) := by
  decide

theorem out_done (c : Dev nD) (D : Finset (Dev nD × Fin 4)) (h : ∀ x, x ∈ D) : OutP a b c D ⊢ own c outM fullShare (result a b) := by
  unfold OutP
  iintro ⟨%X, %hX, H⟩
  have e : X = result a b := funext fun x => hX x (h _)
  rw [e]
  iexact H

/-! ## The body -/

/-- What the body starts from, besides its arguments. -/
def bodyIn (c : Dev nD) : sProp 𝕄 :=
  iprop(barRes (F := F) c ∗ each (fun i => steps a b i c) ∗ (some' (F := F) c (acc 0) ∗ some' (F := F) c (acc 1))
    ∗ some' (F := F) c (comm 0) ∗ some' (F := F) c (comm 1))
/-- What it leaves. -/
def bodyOut (c : Dev nD) : sProp 𝕄 :=
  iprop(semVal (barCell c) 0 ∗ bigSep Finset.univ (fun k : Fin 48 => semVal ((c : Thread nD τ), .dma (tsem k)) 0)
    ∗ (some' (F := F) c (acc 0) ∗ some' (F := F) c (acc 1)) ∗ some' (F := F) c (comm 0) ∗ some' (F := F) c (comm 1))

set_option maxHeartbeats 1000000 in
theorem finish (c : Dev nD) :
    iprop(each (fun i => S a b i 6 6 3 6 c) ∗ each (fun i => some' (F := F) c (accP (dir i) 2 (half i))) ∗ semVal (barCell c) 0) ⊢ bodyOut (F := F) c := by
  unfold bodyOut
  rw [by_code, fin4]
  dsimp only [each]
  iintro ⟨⟨HS0, HS1, HS2, HS3⟩, ⟨Hq0, Hq1, Hq2, Hq3⟩, HB⟩
  ihave HS0 := (S_end a b 0 c) $$ HS0
  icases HS0 with ⟨HC0, HL0⟩
  ihave HS1 := (S_end a b 1 c) $$ HS1
  icases HS1 with ⟨HC1, HL1⟩
  ihave HS2 := (S_end a b 2 c) $$ HS2
  icases HS2 with ⟨HC2, HL2⟩
  ihave HS3 := (S_end a b 3 c) $$ HS3
  icases HS3 with ⟨HC3, HL3⟩
  ihave HW0 := (whole_again (F := F) c 0) $$ [HL0 Hq0 HL2 Hq2]
  · isplitl [HL0 Hq0]
    · isplitl [HL0]; · iexact HL0
      iexact Hq0
    isplitl [HL2]; · iexact HL2
    iexact Hq2
  ihave HW1 := (whole_again (F := F) c 1) $$ [HL1 Hq1 HL3 Hq3]
  · isplitl [HL1 Hq1]
    · isplitl [HL1]; · iexact HL1
      iexact Hq1
    isplitl [HL3]; · iexact HL3
    iexact Hq3
  icases HW0 with ⟨Ha0, Hc0⟩
  icases HW1 with ⟨Ha1, Hc1⟩
  isplitl [HB]; · iexact HB
  isplitl [HC0 HC1 HC2 HC3]
  · isplitl [HC0]; · iexact HC0
    isplitl [HC1]; · iexact HC1
    isplitl [HC2]; · iexact HC2
    iexact HC3
  isplitl [Ha0 Ha1]
  · isplitl [Ha0]; · iexact Ha0
    iexact Ha1
  isplitl [Hc0]; · iexact Hc0
  iexact Hc1

set_option maxHeartbeats 4000000 in
theorem body_all (c : Dev nD) {Q : PUnit → sProp 𝕄} :
    ctx a b K ⊢ iprop(bodyIn a b c -∗ own c inA fullShare (a c) -∗ own c inB fullShare (b c) -∗ (∃ X, own c outM fullShare X)
      -∗ (∃ W, owes (c : Thread nD τ) (O₀ c) W)
      -∗ ((bodyOut (F := F) c ∗ own c inA fullShare (a c) ∗ own c inB fullShare (b c) ∗ own c outM fullShare (result a b)
          ∗ (∃ W, owes (c : Thread nD τ) 0 W)) -∗ Q ⟨⟩)
      -∗ wp frame (wpE (defs₀ (F := F)) 𝒱₀ (c : Thread nD τ) none) Set.univ (on (cc0_body (F := F))) Q) := by
  unfold bodyIn
  dsimp only [each]
  iintro #Hctx ⟨Hbar, ⟨Hs0, Hs1, Hs2, Hs3⟩, ⟨Ha0, Ha1⟩, Hc0, Hc1⟩ HA HB ⟨%X, Hout⟩ HO Hk
  ihave Ha0 := (acc_cut (F := F) c 0 0 2 rfl rfl rfl rfl).1 $$ Ha0
  icases Ha0 with ⟨⟨P00, P20⟩, P3L, P2L, P1L⟩
  ihave Ha1 := (acc_cut (F := F) c 1 1 3 rfl rfl rfl rfl).1 $$ Ha1
  icases Ha1 with ⟨⟨P10, P30⟩, P3R, P2R, P1R⟩
  ihave HD := (show own c outM fullShare X ⊢ OutP a b c ∅ from by
    unfold OutP
    iintro H
    iexists X
    isplitr
    · ipureintro; exact fun x h => absurd h (Finset.notMem_empty _)
    iexact H) $$ Hout
  rw [cc0_body_eq_skeleton]
  unfold on cc0_body_skel
  rw [wp_bind, k0_part37_eq_skeleton]
  unfold k0_part37_skel
  rw [wp_bind]
  iapply (body_a a b K c) $$ Hctx Hbar Hs0 Hs1 Hs2 Hs3 Hc0 Hc1 HA HB P00 HO
  iintro %v2 %v5 %v7 HS0 HS1 HS2 HS3 HA HB Hsrc HO HzB
  iapply (body_b a b K c v2 v5 v7) $$ Hctx [HS0 HS1 HS2 HS3] HA Hsrc P10 P20 P30 P1L P1R HO
  · isplitl [HS0]; · iexact HS0
    isplitl [HS1]; · iexact HS1
    isplitl [HS2]; · iexact HS2
    iexact HS3
  iintro ⟨HS, HA, Hf, HO⟩
  iapply (body_c a b K c v2 v5 v7) $$ Hctx HS HA Hf P2L P2R P3L HO
  iintro ⟨⟨HS0, HS1, HS2, HS3⟩, HA, ⟨Hf0, Hf1, Hf2, Hf3⟩, ⟨Hg0, Hg2⟩, HO⟩
  iapply (body_d0 a b K c v7) $$ Hctx HS0 P3R Hf0 HO
  iintro %x ⟨HS0, ⟨Hg1, Hg3⟩, Hsrc, HO⟩
  obtain ⟨v275, c0⟩ := x
  iapply (body_d a b K c v5 v7 v275 c0) $$ Hctx HS0 HS1 HS2 HS3 Hsrc Hf1 Hf2 Hf3 HO
  iintro ⟨HS0, HS1, HS2, HS3, Hsrc, HO⟩
  iapply (body_e a b K c v5 v7) $$ Hctx HS0 HS1 HS2 HS3 Hsrc [Hg0 Hg1 Hg2 Hg3] HO
  · isplitl [Hg0]; · iexact Hg0
    isplitl [Hg1]; · iexact Hg1
    isplitl [Hg2]; · iexact Hg2
    iexact Hg3
  iintro ⟨HS, Hsum, HO⟩
  iapply (body_f a b K c v2 v5 v7) $$ Hctx HS Hsum HD HO
  iintro ⟨HS, HD, HO⟩
  iapply (body_g a b K c v2 v5 v7 _) $$ Hctx HS HD HO
  iintro ⟨HS, HD, HO⟩
  iapply (body_h a b K c v2 v5 v7 _) $$ Hctx HS HD HO
  iintro ⟨HS, HD, HO⟩
  iapply (body_i a b K c v2 v5 v7 _) $$ Hctx HS HD HO
  iintro ⟨⟨HS0, HS1, HS2, HS3⟩, Hq, HD, HO⟩
  iapply (body_j a b K c) $$ Hctx HS0 HS1 HS2 HS3 HO
  iintro ⟨HS0, HS1, HS2, HS3, HO⟩
  simp only [Prog.lift, Prog.bind_op, Prog.bind_ret, Prog.pure_eq_ret]
  iapply (swait_step a b K 1 5 c rfl (credS 1 5) 5 rfl) $$ Hctx HS1 HO
  iintro ⟨HS1, HO⟩
  iapply (swait_step a b K 2 5 c rfl (credS 2 5) 5 rfl) $$ Hctx HS2 HO
  iintro ⟨HS2, HO⟩
  simp only [wp_ret]
  imodintro
  iapply (swait_step a b K 3 5 c rfl (credS 3 5) 5 rfl) $$ Hctx HS3 HO
  iintro ⟨HS3, HO⟩
  simp only [wp_ret]
  imodintro
  iapply Hk
  isplitl [HS0 HS1 HS2 HS3 Hq HzB]
  · iapply (finish a b c)
    isplitl [HS0 HS1 HS2 HS3]
    · isplitl [HS0]; · iexact HS0
      isplitl [HS1]; · iexact HS1
      isplitl [HS2]; · iexact HS2
      iexact HS3
    isplitl [Hq]; · iexact Hq
    iexact HzB
  isplitl [HA]; · iexact HA
  isplitl [HB]; · iexact HB
  isplitl [HD]
  · iapply (out_done a b c _ (all_written c)) $$ HD
  icases HO with ⟨%W, HO⟩
  iexists W
  rw [owe_done]
  iexact HO

end Cert.RingProof

end
-- ==== Proof.Deal.lean ====
/-
# What the launch deals

Every cell of every device is allocated at once, under one map of names. A device gets the records of all
cells, the positions of its own, the receipts of the duties it pays, and the credit of its barrier cell and
of its receive cells. The receipts are minted per cell and carried round the ring to the devices that pay.
-/
module

public import proofs.«01_k».proof.Proof.BodyE

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (a : Dev nD → Vec F S2048x1024 .bf16) (b : Dev nD → Vec F S1024x2048 .bf16)
variable (K : Dev nD × KI → ℕ)

/-! ## Cells and receipts -/

/-- The transfer semaphores are the kernel's own scoped ones. -/
abbrev osem : Fin 48 → SemLoc sig := fun k => .dma (tsem k)

theorem tsem_inj {k k' : Fin 48} (h : tsem k = tsem k') : k = k' := by
  have hv : 3 + k.val = 3 + k'.val := congrArg Fin.val h
  exact Fin.ext (Nat.add_left_cancel hv)

theorem csem_injective : Function.Injective csem := by
  rintro (⟨⟩ | k) (⟨⟩ | k') h
  · rfl
  · cases h
  · cases h
  · exact congrArg Sum.inr (tsem_inj (SemLoc.dma.inj h))

theorem kcell_injective : Function.Injective (kcell : Dev nD × KI → GSem nD τ sig) := by
  rintro ⟨c, k⟩ ⟨c', k'⟩ h
  have h1 : c = c' := congrArg (fun g : GSem nD τ sig => g.1.1) h
  have h2 : k = k' := csem_injective (congrArg Prod.snd h)
  rw [h1, h2]

/-- A device's receipts: two of its barrier cell, one of each transfer cell. -/
abbrev tokOf (cj : Dev nD × (Bool ⊕ Fin 48)) : GSem nD τ sig × ℕ × Bool := match cj.2 with
  | .inl d => (barCell cj.1, 0, d)
  | .inr k => (kcell (cj.1, .inr k), 0, false)

theorem tokOf_injective : Function.Injective tokOf := by
  rintro ⟨c, j⟩ ⟨c', j'⟩ h
  have hc : ∀ (c : Dev nD) j, (tokOf (c, j)).1 = kcell (c, j.map (fun _ => ()) id) := fun c j => by rcases j with d | k <;> rfl
  have hk := kcell_injective ((hc c j).symm.trans ((congrArg Prod.fst h).trans (hc c' j')))
  have h1 : c = c' := congrArg Prod.fst hk
  have h2 := congrArg Prod.snd hk
  have h3 : (tokOf (c, j)).2.2 = (tokOf (c', j')).2.2 := congrArg (fun x => x.2.2) h
  rcases j with d | k <;> rcases j' with d' | k'
  · have h4 : d = d' := h3
    rw [h1, h4]
  · cases h2
  · cases h2
  · have h4 : k = k' := Sum.inr.inj h2
    rw [h1, h4]

def ringCells : Finset (GSem nD τ sig) := Finset.univ.map ⟨kcell, kcell_injective⟩
def ringToks : Finset (GSem nD τ sig × ℕ × Bool) := Finset.univ.map ⟨tokOf, tokOf_injective⟩

def u₀ : UU := (initOf (Pipeline.cells cfgs cellOf_inj) (Pipeline.launchToks cfgs cellOf_inj), initOf ringCells ringToks)

omit [FloatOps F] in
theorem unit1 (Φ : Unit → sProp 𝕄) : bigSep Finset.univ Φ = Φ () := by
  rw [bigSep_univ_eq_bigSepL [()] (by decide) (by decide), bigSepL_singleton]
omit [FloatOps F] in
theorem bool2 (Φ : Bool → sProp 𝕄) : bigSep Finset.univ Φ = iprop(Φ false ∗ Φ true) := by
  rw [bigSep_univ_eq_bigSepL [false, true] (by decide) (by decide), bigSepL_cons_cons, bigSepL_singleton]; rfl

omit [FloatOps F] in
/-- A device's cells: the barrier, and the two of every stream and step. -/
theorem by_cell (Φ : KI → sProp 𝕄) :
    bigSep Finset.univ Φ = iprop(Φ (.inl ()) ∗ bigSep Finset.univ fun i : Fin 4 => bigSep Finset.univ fun n : Fin 6 => iprop(Φ (.inr (sendK i n)) ∗ Φ (.inr (recvK i n)))) := by
  rw [show bigSep Finset.univ Φ = iprop(bigSep Finset.univ (fun u => Φ (.inl u)) ∗ bigSep Finset.univ (fun k => Φ (.inr k))) from bigSep_univ_sum Φ, unit1, by_code]

/-- The receipts minted for device `c`'s cells, and those of the duties it pays. -/
def minted (c : Dev nD) : sProp 𝕄 :=
  iprop((dutyTok ER (barCell c) 0 false ∗ dutyTok ER (barCell c) 0 true)
    ∗ bigSep Finset.univ fun i : Fin 4 => bigSep Finset.univ fun n : Fin 6 => iprop(dutyTok ER (sendCell i n c) 0 false ∗ dutyTok ER (recvCell i n c) 0 false))
def pays (c : Dev nD) : sProp 𝕄 :=
  iprop((dutyTok ER (barCell (toward 1 c)) 0 false ∗ dutyTok ER (barCell (toward 0 c)) 0 true)
    ∗ bigSep Finset.univ fun i : Fin 4 => bigSep Finset.univ fun n : Fin 6 => iprop(dutyTok ER (sendCell i n c) 0 false ∗ dutyTok ER (recvCell i n (down i c)) 0 false))

omit [FloatOps F] in
theorem swap (Φ : Dev nD → Fin 4 → sProp 𝕄) :
    (bigSep Finset.univ fun c => bigSep Finset.univ fun i => Φ c i) = bigSep Finset.univ fun i => bigSep Finset.univ fun c => Φ c i := by
  rw [← bigSep_univ_prod (fun x : Dev nD × Fin 4 => Φ x.1 x.2), ← bigSep_univ_prod (fun x : Fin 4 × Dev nD => Φ x.2 x.1),
    bigSep_univ_equiv (Equiv.prodComm (Fin 4) (Dev nD)) (fun x : Dev nD × Fin 4 => Φ x.1 x.2)]
  rfl

omit [FloatOps F] in
/-- A stream's receive receipts carried one device up. -/
theorem around (i : Fin 4) :
    (bigSep Finset.univ fun c : Dev nD => bigSep Finset.univ fun n : Fin 6 => (iprop(dutyTok ER (sendCell i n c) 0 false ∗ dutyTok ER (recvCell i n c) 0 false) : sProp 𝕄))
      = bigSep Finset.univ fun c : Dev nD => bigSep Finset.univ fun n : Fin 6 => iprop(dutyTok ER (sendCell i n c) 0 false ∗ dutyTok ER (recvCell i n (down i c)) 0 false) := by
  rw [bigSep_congr (s := Finset.univ) (fun (c : Dev nD) _ => bigSep_sep' Finset.univ (fun n : Fin 6 => (dutyTok ER (sendCell i n c) 0 false : sProp 𝕄)) (fun n => dutyTok ER (recvCell i n c) 0 false)),
    bigSep_congr (s := Finset.univ) (fun (c : Dev nD) _ => bigSep_sep' Finset.univ (fun n : Fin 6 => (dutyTok ER (sendCell i n c) 0 false : sProp 𝕄)) (fun n => dutyTok ER (recvCell i n (down i c)) 0 false)),
    bigSep_sep', bigSep_sep', bigSep_univ_equiv (ring (dir i)) (fun c : Dev nD => bigSep Finset.univ fun n : Fin 6 => (dutyTok ER (recvCell i n c) 0 false : sProp 𝕄))]
  rfl

omit [FloatOps F] in
theorem deal_round : (bigSep Finset.univ fun c : Dev nD => (minted c : sProp 𝕄)) = bigSep Finset.univ fun c : Dev nD => pays c := by
  unfold minted pays
  rw [bigSep_sep', bigSep_sep', bigSep_sep', bigSep_sep',
    swap (fun (c : Dev nD) (i : Fin 4) => bigSep Finset.univ fun n : Fin 6 => (iprop(dutyTok ER (sendCell i n c) 0 false ∗ dutyTok ER (recvCell i n c) 0 false) : sProp 𝕄)),
    swap (fun (c : Dev nD) (i : Fin 4) => bigSep Finset.univ fun n : Fin 6 => (iprop(dutyTok ER (sendCell i n c) 0 false ∗ dutyTok ER (recvCell i n (down i c)) 0 false) : sProp 𝕄)),
    bigSep_congr (s := Finset.univ) (fun (i : Fin 4) _ => around i),
    bigSep_univ_equiv (ring 1) (fun c : Dev nD => (dutyTok ER (barCell c) 0 false : sProp 𝕄)),
    bigSep_univ_equiv (ring 0) (fun c : Dev nD => (dutyTok ER (barCell c) 0 true : sProp 𝕄))]
  rfl

/-! ## The cells' ghost state -/

/-- What the launch element deals device `c`. -/
def G (c : Dev nD) : sProp 𝕄 :=
  iprop((bigSep Finset.univ fun k : KI => roundState ER (Rd a b) (kcell (c, k)) 0)
    ∗ (bigSep Finset.univ fun k : KI => iprop(atPos ER (kcell (c, k)) 0 ∅ 0 ∗ reached ER (kcell (c, k)) 0)) ∗ minted c)

/-- The records of all cells; what stays with device `c`. -/
def records : sProp 𝕄 :=
  iprop((bigSep Finset.univ fun ck : Dev nD × KI => cellInv ER (Rd a b) (K ck) (kcell ck)) ∗ bigSep Finset.univ fun ck : Dev nD × KI => reached ER (kcell ck) 0)
instance records_persistent : BI.Persistent (records a b K) := by unfold records; infer_instance

def mine (c : Dev nD) : sProp 𝕄 := iprop((bigSep Finset.univ fun k : KI => atPos ER (kcell (c, k)) 0 ∅ 0) ∗ pays c)
def G' (c : Dev nD) : sProp 𝕄 := iprop(∃ K, records a b K ∗ mine c)

theorem fund_ring : BI.own (ER (initOf ringCells ringToks)) ⊢ (|==> bigSep Finset.univ (G a b) : sProp 𝕄) := by
  have hX (Φ : GSem nD τ sig → sProp 𝕄) : bigSep ringCells Φ = bigSep Finset.univ fun c : Dev nD => bigSep Finset.univ fun k : KI => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => minted c := by
    unfold ringToks
    rw [bigSep_map, bigSep_univ_prod]
    refine bigSep_congr fun c _ => ?_
    unfold minted
    rw [bigSep_univ_sum, bool2, by_code]
    rfl
  iintro HX
  imod (Rounds.fund ER (Rd a b) ringCells ringToks) $$ HX with ⟨Hst, Hr, Hat, Htok⟩
  imodintro
  ihave Hst := (BIBase.Entails.of_eq (hX fun g => roundState ER (Rd a b) g 0)) $$ Hst
  ihave Hat := (BIBase.Entails.of_eq (hX fun g => atPos ER g 0 ∅ 0)) $$ Hat
  ihave Hr := (BIBase.Entails.of_eq (hX fun g => reached ER g 0)) $$ Hr
  ihave Htok := (BIBase.Entails.of_eq hT) $$ Htok
  unfold G
  simp only [bigSep_sep']
  isplitl [Hst]; · iexact Hst
  isplitl [Hat Hr]
  · isplitl [Hat]; · iexact Hat
    iexact Hr
  iexact Htok

omit [FloatOps F] in
theorem ownSems0_eq (c : Dev nD) : (Pipeline.ownSems0 (Ix := Unit) (Name := ℕ) (U := UU) (Lvl := ℕ) (Val := Elt F) (τ := τ) osem c : sProp 𝕄)
    = bigSep Finset.univ fun k : Fin 48 => semVal ((c : Thread nD τ), .dma (tsem k)) 0 := rfl
omit [FloatOps F] in
theorem unscopedSems0_eq (c : Dev nD) : (unscopedSems0 c : sProp 𝕄) = semVal (barCell c) 0 := by
  unfold unscopedSems0
  rw [bigSep_eq_bigSepL_of_eq [SemLoc.reg barS] (by decide) (by decide), bigSepL_singleton]

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : KI => semVal (kcell (c, k)) 0 : sProp 𝕄) := by
  rw [ownSems0_eq, unscopedSems0_eq,
    show (bigSep Finset.univ fun k : KI => (semVal (kcell (c, k)) 0 : sProp 𝕄)) = iprop(bigSep Finset.univ (fun u : Unit => semVal (kcell (c, .inl u)) 0)
      ∗ bigSep Finset.univ (fun k : Fin 48 => semVal (kcell (c, .inr k)) 0)) from bigSep_univ_sum _, unit1]
  iintro ⟨H, HB⟩
  isplitl [HB]; · iexact HB
  iexact H

theorem core_alloc (c : Dev nD) :
    iprop(Pipeline.ownSems0 (Ix := Unit) (Name := ℕ) (U := UU) (Lvl := ℕ) (Val := Elt F) (τ := τ) osem c ∗ unscopedSems0 c ∗ G a b c)
      ⊢ |={Set.univ}=> iprop((bigSep Finset.univ fun k => iprop(∃ κ : ℕ, cellInv ER (Rd a b) κ (kcell (c, k))))
          ∗ (bigSep Finset.univ fun k => iprop(atPos ER (kcell (c, k)) 0 ∅ 0 ∗ reached ER (kcell (c, k)) 0)) ∗ minted c) := by
  unfold G
  iintro ⟨Hos, Hus, Hst, Hat, Htok⟩
  ihave Hv := (sems0_eq (F := F) c) $$ [Hos Hus]
  · isplitl [Hos]; · iexact Hos
    iexact Hus
  imod (show iprop((bigSep Finset.univ fun k : KI => semVal (kcell (c, k)) 0) ∗ bigSep Finset.univ fun k : KI => roundState ER (Rd a b) (kcell (c, k)) 0)
      ⊢ (|={Set.univ}=> bigSep Finset.univ fun k => iprop(∃ κ : ℕ, cellInv ER (Rd a b) κ (kcell (c, k))) : sProp 𝕄) from by
        rw [← bigSep_sep']
        exact (bigSep_mono fun k _ => (Rounds.body_intro ER (Rd a b) (kcell (c, k))).trans inv_alloc).trans (bigSep_fupd _ _)) $$ [Hv Hst] with Hinv
  · isplitl [Hv]; · iexact Hv
    iexact Hst
  imodintro
  isplitl [Hinv]; · iexact Hinv
  isplitl [Hat]; · iexact Hat
  iexact Htok

theorem regroup :
    (bigSep Finset.univ fun c : Dev nD => iprop((bigSep Finset.univ fun k => iprop(∃ κ : ℕ, cellInv ER (Rd a b) κ (kcell (c, k))))
          ∗ (bigSep Finset.univ fun k => iprop(atPos ER (kcell (c, k)) 0 ∅ 0 ∗ reached ER (kcell (c, k)) 0)) ∗ minted c) : sProp 𝕄)
      ⊢ bigSep Finset.univ (G' a b) := by
  rw [bigSep_sep', bigSep_sep', ← bigSep_univ_prod (fun ck : Dev nD × KI => iprop(∃ κ : ℕ, cellInv ER (Rd a b) κ (kcell ck))),
    bigSep_congr (s := Finset.univ) (fun (c : Dev nD) _ => bigSep_sep' Finset.univ (fun k : KI => (atPos ER (kcell (c, k)) 0 ∅ 0 : sProp 𝕄)) (fun k => reached ER (kcell (c, k)) 0)),
    bigSep_sep', ← bigSep_univ_prod (fun ck : Dev nD × KI => (reached ER (kcell ck) 0 : sProp 𝕄)), deal_round]
  iintro ⟨HI, ⟨Hat, #HR⟩, Htok⟩
  ihave HK := (BI.bigSep_exists_pi Finset.univ (fun (ck : Dev nD × KI) (κ : ℕ) => (cellInv ER (Rd a b) κ (kcell ck) : sProp 𝕄))) $$ HI
  icases HK with ⟨%K, #HI⟩
  have hall : ∀ c ∈ (Finset.univ : Finset (Dev nD)), iprop(records a b K ∗ mine (F := F) c) ⊢ G' a b c := fun c _ => by
    unfold G'
    iintro H
    iexists K
    iexact H
  have hwith : iprop(records a b K ∗ bigSep Finset.univ (mine (F := F))) ⊢ bigSep Finset.univ (G' a b) :=
    BI.bigSep_with_persistent hall
  iapply hwith
  isplitr
  · unfold records
    isplitr; · iexact HI
    iexact HR
  · unfold mine
    rw [bigSep_sep']
    isplitl [Hat]; · iexact Hat
    iexact Htok

/-- The own and the unscoped semaphores of every device, at once. -/
theorem glob : (bigSep Finset.univ fun c => iprop(Pipeline.ownSems0 (Ix := Unit) (Name := ℕ) (U := UU) (Lvl := ℕ) (Val := Elt F) (τ := τ) osem c ∗ unscopedSems0 c ∗ G a b c) : sProp 𝕄)
    ⊢ |={Set.univ}=> bigSep Finset.univ (G' a b) :=
  ((bigSep_mono fun c _ => core_alloc a b c).trans (bigSep_fupd _ _)).trans (BI.fupd_mono (regroup a b))

/-! ## The launch credit -/

theorem bar_ne_recv (c d : Dev nD) (i : Fin 4) (n : Fin 6) : barCell c ≠ recvCell i n d := fun h => by cases congrArg Prod.snd h

theorem recvCell_inj {i i' : Fin 4} {n n' : Fin 6} {c c' : Dev nD} (h : recvCell i n c = recvCell i' n' c') : i = i' ∧ n = n' ∧ c = c' := by
  have h1 : c = c' := congrArg (fun g : GSem nD τ sig => g.1.1) h
  have h2 : recvS i n = recvS i' n' := SemLoc.dma.inj (congrArg Prod.snd h)
  obtain ⟨-, -, h3, h4⟩ := recvS_facts i n
  obtain ⟨-, -, h5, h6⟩ := recvS_facts i' n'
  exact ⟨h3.symm.trans ((congrArg streamOf h2).trans h5), h4.symm.trans ((congrArg stepOf h2).trans h6), h1⟩

theorem owed_recv (i : Fin 4) (n : Fin 6) (c d : Dev nD) : O₀ d (recvCell i n c) () = if d = up i c then N else 0 := by
  unfold O₀ O₁ owe
  rw [Pi.add_apply, Finsupp.add_apply, Pi.add_apply, Finsupp.add_apply, tallyAt_ne_cell (bar_ne_recv _ _ i n).symm, tallyAt_ne_cell (bar_ne_recv _ _ i n).symm,
    Finsupp.zero_apply, Nat.add_zero, Nat.add_zero, Finset.sum_apply, Finsupp.finset_sum_apply]
  have hk : ∀ k ∈ Finset.Ico 0 24, (tallyAt (recvCell (st k) (sn k) (down (st k) d)) () N : CellTallies nD τ sig Unit) (recvCell i n c) ()
      = if k = 4 * n.val + i.val then (if d = up i c then N else 0) else 0 := fun k hk => by
    rw [Finset.mem_Ico] at hk
    have hn := n.isLt
    rw [tallyAt_apply]
    by_cases h : recvCell i n c = recvCell (st k) (sn k) (down (st k) d)
    · obtain ⟨h1, h2, h3⟩ := recvCell_inj h
      have e1 : i.val = k % 4 := congrArg Fin.val h1
      have e2 : n.val = k / 4 % 6 := congrArg Fin.val h2
      rw [if_pos ⟨h, rfl⟩, if_pos (by omega), if_pos]
      rw [h3, ← h1]
      exact (from_toward (dir i) d).symm
    · rw [if_neg fun h' => h h'.1]
      by_cases hk' : k = 4 * n.val + i.val
      · rw [if_pos hk', if_neg fun hd => h ?_]
        subst hk'
        rw [st_mk, sn_mk, hd]
        exact congrArg (recvCell i n) (toward_from (dir i) c).symm
      · rw [if_neg hk']
  have hi := i.isLt
  have hn := n.isLt
  rw [Finset.sum_congr rfl hk, Finset.sum_ite_eq', if_pos (by rw [Finset.mem_Ico]; omega)]

theorem owed_bar (c d : Dev nD) : O₀ d (barCell c) () = (if d = from' 0 c then 1 else 0) + (if d = from' 1 c then 1 else 0) := by
  have hb : ∀ (e : Fin 2), (tallyAt (barCell (toward e d)) () 1 : CellTallies nD τ sig Unit) (barCell c) () = if d = from' e c then 1 else 0 := fun e => by
    rw [tallyAt_apply]
    by_cases h : d = from' e c
    · rw [if_pos h, if_pos ⟨by rw [h, toward_from], rfl⟩]
    · rw [if_neg h, if_neg fun h' => h ?_]
      have h1 : c = toward e d := congrArg (fun g : GSem nD τ sig => g.1.1) h'.1
      rw [h1, from_toward]
  unfold O₀ O₁ owe
  rw [Pi.add_apply, Finsupp.add_apply, Pi.add_apply, Finsupp.add_apply, hb, hb, Finset.sum_apply, Finsupp.finset_sum_apply,
    Finset.sum_eq_zero fun k _ => by rw [tallyAt_ne_cell (bar_ne_recv _ _ _ _), Finsupp.zero_apply], Nat.zero_add]

theorem launch_recv (i : Fin 4) (n : Fin 6) (c : Dev nD) :
    tallyOn (recvCell i n c) (launchCredit (Pipeline.owing O₀) 0 (recvCell i n c)) = (tallyAt (recvCell i n c) () N : CellTallies nD τ sig Unit) := by
  unfold tallyAt; refine congrArg _ (Finsupp.ext fun u => ?_); cases u
  rw [Pipeline.launchCredit_owing, Finsupp.single_eq_same, Finset.sum_congr rfl fun d _ => owed_recv i n c d, Finset.sum_ite_eq' Finset.univ (up i c) fun _ => N,
    if_pos (Finset.mem_univ _)]
theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar c d, Finset.sum_add_distrib,
    Finset.sum_ite_eq' Finset.univ (from' 0 c) fun _ => 1, Finset.sum_ite_eq' Finset.univ (from' 1 c) fun _ => 1, if_pos (Finset.mem_univ _), if_pos (Finset.mem_univ _)]

omit [FloatOps F] in
theorem creds (c : Dev nD) :
    (Pipeline.launchCred O₀ c : sProp 𝕄) ⊢ iprop(cred (tallyAt (barCell c) () 2)
      ∗ bigSep Finset.univ fun i : Fin 4 => bigSep Finset.univ fun n : Fin 6 => cred (tallyAt (recvCell i n c) () N)) := by
  unfold Pipeline.launchCred
  refine (bigSep_subset (Finset.subset_univ (Finset.univ.map ⟨csem, csem_injective⟩))).trans ?_
  rw [bigSep_map, by_cell]
  refine BIClass.sep_mono (BIBase.Entails.of_eq (congrArg cred (launch_bar c))) (bigSep_mono fun i _ => bigSep_mono fun n _ => ?_)
  show iprop(_ ∗ _) ⊢ (_ : sProp 𝕄)
  iintro ⟨-, H⟩
  iapply (BIBase.Entails.of_eq (congrArg cred (launch_recv i n c))) $$ H

end Cert.RingProof

end
-- ==== Proof.Run.lean ====
/-
# The run

The kernel's pipeline has one point: the two input blocks are fetched, the body runs, the result is flushed.
The body's obligation is `body_all`; the launch deals every device what the body asks for, and at the end
every counter is back at zero.
-/
module

public import proofs.«01_k».proof.Proof.Deal
public import Idealize.ShloMosaic.Lib.Quiescent
public import Idealize.ShloMosaic.Lib.Pipeline.Quiescent

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ

variable (a : Dev nD → Vec F S2048x1024 .bf16) (b : Dev nD → Vec F S1024x2048 .bf16)
variable (K : Dev nD × KI → ℕ)

/-! ## What the body starts from -/

/-- The launch's share of a device: the records, and what the body asks for beside its buffers. -/
def start (c : Dev nD) : sProp 𝕄 := iprop(∃ K, ctx a b K ∗ barRes (F := F) c ∗ each fun i => steps a b i c)

/-- Its buffers at any contents. -/
def bufs (c : Dev nD) : sProp 𝕄 :=
  iprop((some' (F := F) c (acc 0) ∗ some' (F := F) c (acc 1)) ∗ some' (F := F) c (comm 0) ∗ some' (F := F) c (comm 1))

theorem step_start (i : Fin 4) (n : Fin 6) (c : Dev nD) :
    iprop((dutyTok ER (sendCell i n c) 0 false ∗ dutyTok ER (recvCell i n (down i c)) 0 false)
        ∗ (atPos ER (sendCell i n c) 0 ∅ 0 ∗ atPos ER (recvCell i n c) 0 ∅ 0) ∗ cred (tallyAt (recvCell i n c) () N))
      ⊢ stepAt a b i 0 0 0 0 c n := by
  unfold stepAt toks recvSt sendSt kept
  simp only [if_pos (Nat.zero_le _), if_neg (Nat.not_lt_zero _), if_neg (fun h : n.val < 0 ∧ 0 ≤ n.val => Nat.not_lt_zero _ h.1), ite_self]
  iintro ⟨Ht, ⟨Hs, Hr⟩, Hc⟩
  isplitl [Ht]; · iexact Ht
  isplitl [Hr Hc]
  · isplitl [Hr]; · iexact Hr
    iexact Hc
  isplitl [Hs]
  · isplitl [Hs]; · iexact Hs
    iempintro
  iempintro

theorem steps_start (c : Dev nD) :
    iprop((bigSep Finset.univ fun i : Fin 4 => bigSep Finset.univ fun n : Fin 6 => iprop(dutyTok ER (sendCell i n c) 0 false ∗ dutyTok ER (recvCell i n (down i c)) 0 false))
        ∗ (bigSep Finset.univ fun i : Fin 4 => bigSep Finset.univ fun n : Fin 6 => iprop(atPos ER (sendCell i n c) 0 ∅ 0 ∗ atPos ER (recvCell i n c) 0 ∅ 0))
        ∗ bigSep Finset.univ fun i : Fin 4 => bigSep Finset.univ fun n : Fin 6 => cred (tallyAt (recvCell i n c) () N))
      ⊢ each fun i => steps a b i c := by
  rw [show (each fun i => steps a b i c) = bigSep Finset.univ fun i : Fin 4 => steps a b i c from (fin4 fun i : Fin 4 => steps a b i c).symm]
  simp only [← bigSep_sep']
  exact bigSep_mono fun i _ => bigSep_mono fun n _ => step_start a b i n c

theorem start_of (c : Dev nD) : iprop(levAts L lv ∗ Pipeline.launchCred O₀ c ∗ G' a b c) ⊢ start a b c := by
  unfold G' mine start
  iintro ⟨Hlev, Hcr, ⟨%K, #HR, Hat, Hpay⟩⟩
  ihave Hc := (creds (F := F) c) $$ Hcr
  icases Hc with ⟨H2, HN⟩
  ihave Hat := (BIBase.Entails.of_eq (by_cell (F := F) fun k => atPos ER (kcell (c, k)) 0 ∅ 0)) $$ Hat
  icases Hat with ⟨HB, Hat⟩
  unfold pays
  icases Hpay with ⟨⟨HtL, HtR⟩, Htok⟩
  iexists K
  isplitl [Hlev]
  · unfold ctx records
    isplitr; · iexact HR
    iexact Hlev
  isplitl [HB H2 HtL HtR]
  · unfold barRes
    isplitl [HtL]; · iexact HtL
    isplitl [HtR]; · iexact HtR
    isplitl [HB]; · iexact HB
    iexact H2
  iapply (steps_start a b c)
  isplitl [Htok]; · iexact Htok
  isplitl [Hat]; · iexact Hat
  iexact HN

/-! ## The pipeline's data -/

variable (m : (ℓ : Loc nD τ sig) → Buf (Elt F) ℓ) (ρ : Dev nD → PrngReg)

/-- A device's blocks, as its pipeline fetches them. -/
def A (c : Dev nD) : Vec F S2048x1024 .bf16 := (win0_0.blk (0 : Fin 1)).view.read (Elt F) (m ((c : Thread nD τ).loc main_arg0))
def B (c : Dev nD) : Vec F S1024x2048 .bf16 := (win0_1.blk (0 : Fin 1)).view.read (Elt F) (m ((c : Thread nD τ).loc main_arg1))

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => A m c
    | ⟨1, _⟩ => B m c
    | ⟨2, _⟩ => result (A m) (B m)
  Φ t := match t with
    | ⟨0, _⟩ => iprop(start (A m) (B m) c ∗ bufs c)
    | ⟨_ + 1, _⟩ => bodyOut c
  q _ := fullShare
  owed t := match t with
    | ⟨0, _⟩ => O₀ c
    | ⟨_ + 1, _⟩ => 0

theorem one_point : cfg0.N = 1 := by decide
def t₀ : Fin cfg0.N := ⟨0, by rw [one_point]; decide⟩
theorem at_t₀ (t : Fin cfg0.N) : t = t₀ := Fin.ext (by have h := t.isLt; have h1 := one_point; show t.val = 0; omega)

theorem fetchA (t : Fin cfg0.N) : (cfg0.win (0 : Fin 3)).fetch t = true := by rw [at_t₀ t]; rfl
theorem fetchB (t : Fin cfg0.N) : (cfg0.win (1 : Fin 3)).fetch t = true := by rw [at_t₀ t]; rfl

theorem beforeA (c : Dev nD) (d) : (dats m ρ 0 c).before (0 : Fin 3) t₀ d = A m c := by
  unfold Dat.before; rw [if_pos (fetchA _)]; rfl
theorem beforeB (c : Dev nD) (d) : (dats m ρ 0 c).before (1 : Fin 3) t₀ d = B m c := by
  unfold Dat.before; rw [if_pos (fetchB _)]; rfl

set_option maxRecDepth 40000 in
/-- The body's obligation on device `c`. -/
theorem body_obligation (c : Dev nD) : BodyObligation (dats (F := F) m ρ 0 c) (defs₀ (F := F)) 𝒱₀ () Set.univ := fun t => by
  rw [at_t₀ t]
  rw [bigSep_W0, bigSep_W0]
  show iprop((start (A m) (B m) c ∗ bufs c) ∗ (dats m ρ 0 c).owesAt () t₀.castSucc
      ∗ (∃ d, own c inA fullShare ((dats m ρ 0 c).before (0 : Fin 3) t₀ d)) ∗ (∃ d, own c inB fullShare ((dats m ρ 0 c).before (1 : Fin 3) t₀ d))
      ∗ (∃ d, own c outM fullShare ((dats m ρ 0 c).before (2 : Fin 3) t₀ d)))
    ⊢ wp frame (wpE (defs₀ (F := F)) 𝒱₀ (c : Thread nD τ) none) Set.univ (on (cc0_body (F := F)))
      (fun _ => iprop(bodyOut c ∗ (dats m ρ 0 c).owesAt () t₀.succ ∗ own c inA fullShare (A m c) ∗ own c inB fullShare (B m c)
        ∗ own c outM fullShare (result (A m) (B m))))
  unfold start bufs
  iintro ⟨⟨⟨%K, #Hctx, HB, HS⟩, Hbuf⟩, Ho, ⟨%dA, HA⟩, ⟨%dB, HBm⟩, ⟨%dO, HO⟩⟩
  rw [beforeA, beforeB]
  unfold Dat.owesAt Pipeline.owesWithin
  icases Ho with ⟨%W, %hW, Howe⟩
  iapply (body_all (A m) (B m) K c) $$ Hctx [HB HS Hbuf] HA HBm [HO] [Howe]
  · unfold bodyIn
    isplitl [HB]; · iexact HB
    isplitl [HS]; · iexact HS
    iexact Hbuf
  · iexists _
    iexact HO
  · iexists W
    iexact Howe
  iintro ⟨Hout, HA, HBm, HO, ⟨%W', Howe⟩⟩
  isplitl [Hout]; · iexact Hout
  isplitl [Howe]
  · iexists W'
    isplitr
    · ipureintro
      exact fun _ _ => Or.inl trivial
    iexact Howe
  isplitl [HA]; · iexact HA
  isplitl [HBm]; · iexact HBm
  iexact HO

/-! ## The launch -/

theorem ownSemFacts : Pipeline.OwnSemFacts cfg0.spec osem := by decide

theorem share_eq (c : Dev nD) (w : Fin cfg0.W) : (dats m ρ 0 c).share w = fullShare := by unfold Dat.share; split <;> rfl

omit [FloatOps F] in
/-- A buffer held whole at some contents. -/
theorem sat_whole (c : Dev nD) (r : Ref sig .tc) :
    (ownsSat (Ix := Unit) (Name := ℕ) (U := UU) (Lvl := ℕ) (Val := Elt F) (c : Thread nD τ) (Memref.whole r) fullShare fun _ => True : sProp 𝕄)
      = iprop(∃ f : Buf (Elt F) ((c : Thread nD τ).loc r), ((c : Thread nD τ).loc r) ↦{fullShare} f) := by
  unfold ownsSat
  simp only [Memref.view_whole, View.read_whole, View.set_whole]
  refine BI.Entails.antisymm ?_ ?_
  · show (_ : sProp 𝕄) ⊢ _
    iintro ⟨%f, -, H⟩
    iexists f
    iexact H
  · show (_ : sProp 𝕄) ⊢ _
    iintro ⟨%f, H⟩
    iexists f
    isplitr
    · ipureintro
      trivial
    iexact H

omit [FloatOps F] in
theorem bufs_eq (c : Dev nD) : (Pipeline.scopedRest (Ix := Unit) (Name := ℕ) (U := UU) (Lvl := ℕ) (Val := Elt F) cfg0.spec c : sProp 𝕄) ⊣⊢ bufs c := by
  rw [show (Pipeline.scopedRest (Ix := Unit) (Name := ℕ) (U := UU) (Lvl := ℕ) (Val := Elt F) cfg0.spec c : sProp 𝕄) = _ from scopedRest0_eq c,
    ← sat_whole, ← sat_whole, ← sat_whole, ← sat_whole]
  unfold bufs some' acc comm
  constructor
  · iintro ⟨H0, H1, H2, H3⟩
    isplitl [H0 H1]
    · isplitl [H0]; · iexact H0
      iexact H1
    isplitl [H2]; · iexact H2
    iexact H3
  · iintro ⟨⟨H0, H1⟩, H2, H3⟩
    isplitl [H0]; · iexact H0
    isplitl [H1]; · iexact H1
    isplitl [H2]; · iexact H2
    iexact H3

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (A m) (B m) c)
      ⊢ |={Set.univ}=> iprop(start (A m) (B m) c ∗ emp) := by
  iintro ⟨-, Hlev, Hcr, -, HG⟩
  imodintro
  isplitl
  · iapply (start_of (A m) (B m) c)
    isplitl [Hlev]; · iexact Hlev
    isplitl [Hcr]; · iexact Hcr
    iexact HG
  · iempintro

theorem phi0_intro (c : Dev nD) :
    iprop(start (A m) (B m) c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = iprop(start (A m) (B m) c ∗ bufs c) from rfl]
  iintro ⟨Hs, -, Hr⟩
  isplitl [Hs]; · iexact Hs
  iapply (bufs_eq c).1 $$ Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = bodyOut c from rfl, ownSems0_eq, unscopedSems0_eq]
  unfold bodyOut
  iintro ⟨HB, HS, Hbuf⟩
  isplitl [HB]; · iexact HB
  isplitl [HS]; · iexact HS
  iapply (bufs_eq c).2
  unfold bufs
  iexact Hbuf

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-- What the arrays hold after the run. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 40000 in
/-- Every weakly fair execution of the kernel on the four devices terminates, with each array at its final contents
    and every semaphore counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G (A m) (B m)) (G' := G' (A m) (B m)) (u₀ := u₀)
    (hu₀ := by
      unfold u₀
      iintro Hu
      ihave H := (ownU_pair _ _) $$ Hu
      icases H with ⟨HP, HX⟩
      imod (fund_ring (A m) (B m)) $$ HX with HG
      imodintro
      isplitl [HP] <;> iassumption)
    (hglob := glob (A m) (B m))
    (hA := fun _ _ => rfl) (hpf := fun _ k => k.elim0)
    (X := start (A m) (B m)) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      ihave %h := (tcUnscoped_read c s') $$ [Hu HSI]
      · isplitl [Hu] <;> iassumption
      imodintro
      isplitr
      · ipureintro
        exact h
      iexact HSI)
    (hQ := fun _ h hs => ⟨fun c w => (h c).1 w, sem_eq_zero hs fun c => (h c).2.2⟩)

/-! ## What the arrays hold -/

theorem finalA_in0 (c : Dev nD) : finalA m ρ c (0 : Fin 3) = m ((c : Thread nD τ).loc main_arg0) :=
  (dats m ρ 0 c).arrAt_in (0 : Fin 3) rfl _
theorem finalA_in1 (c : Dev nD) : finalA m ρ c (1 : Fin 3) = m ((c : Thread nD τ).loc main_arg1) :=
  (dats m ρ 0 c).arrAt_in (1 : Fin 3) rfl _

theorem A_eq (c : Dev nD) : A m c = m ((c : Thread nD τ).loc main_arg0) :=
  Memref.read_access_unit_zero (Elt F) main_arg0 (funext fun a => by fin_cases a <;> decide) (fun a => by fin_cases a <;> decide) _
theorem B_eq (c : Dev nD) : B m c = m ((c : Thread nD τ).loc main_arg1) :=
  Memref.read_access_unit_zero (Elt F) main_arg1 (funext fun a => by fin_cases a <;> decide) (fun a => by fin_cases a <;> decide) _

/-- The result array of every device. -/
theorem finalA_out (c : Dev nD) : finalA m ρ c (2 : Fin 3) = result (fun d : Dev nD => m ((d : Thread nD τ).loc main_arg0)) (fun d : Dev nD => m ((d : Thread nD τ).loc main_arg1)) := by
  have hw : (win0_2.blk (0 : Fin 1)).view.read (Elt F) (finalA m ρ c (2 : Fin 3)) = result (A m) (B m) := by
    unfold finalA
    rw [show cfg0.N = ((0 : Fin 1) : Fin cfg0.N).val + 1 from rfl, (dats m ρ 0 c).arrAt_succ (2 : Fin 3) (0 : Fin 1),
      show (cfg0.win (2 : Fin 3)).flush (0 : Fin 1) = true from flush0_2 _, if_pos rfl]
    exact View.read_write_univ _ _
  rw [show A m = fun d : Dev nD => m ((d : Thread nD τ).loc main_arg0) from funext (A_eq m), show B m = fun d : Dev nD => m ((d : Thread nD τ).loc main_arg1) from funext (B_eq m)] at hw
  exact (Memref.read_access_unit_zero (Elt F) main_v1 (funext fun a => by fin_cases a <;> decide) (fun a => by fin_cases a <;> decide) _).symm.trans hw

/-- The kernel terminates, its arguments unchanged, its result at `result`, and every counter at zero. -/
theorem run_result : θ_run (defs (F := F)) (onTc (τ := τ) (main (F := F))) ⟨m, fun _ => 0, ρ⟩ (fun r => (∀ c : Dev nD,
      (r.2.mem ((c.tc : Thread nD τ).loc main_v1) = result (fun d : Dev nD => m ((d : Thread nD τ).loc main_arg0)) (fun d : Dev nD => m ((d : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1))
    ∧ r.2.sem = fun _ => 0) :=
  (θ_run defs _ _).mono
    (fun _ h => ⟨fun c => ⟨(h.1 c (2 : Fin 3)).trans (finalA_out m ρ c), (h.1 c (0 : Fin 3)).trans (finalA_in0 m ρ c), (h.1 c (1 : Fin 3)).trans (finalA_in1 m ρ c)⟩, h.2⟩)
    (run_main m ρ)

/-- The same without the result. -/
theorem run_frame : θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
    ∧ r.2.sem = fun _ => 0) :=
  (θ_run defs _ _).mono (fun _ h => ⟨fun c => (h.1 c).2, h.2⟩) (run_result m ρ)

end Cert.RingProof

end
-- ==== Proof.Value.lean ====
/-
# What the ring computes

Over the extended reals a piece of the result is the sum, over the devices, of the products of their blocks, cut
off at zero: the ring visits every device once. The contraction of the whole arrays is that sum, read by blocks.
-/
module

public import proofs.«01_k».proof.Proof.Ring
public import proofs.«01_k».proof.Proof.Gen.ReferenceIdeal
public import Idealize.ShloMosaic.Lib.Pointwise
public import Idealize.ShloMosaic.Lib.Layout

@[expose] public section

set_option maxRecDepth 16384

noncomputable section

namespace Cert.RingProof.Value

open Cert.KernelIdeal Cert.KernelIdeal.Gen
open Idealize.ShloMosaic

/-- An element of the product of a row of `a` and a column of `b`. -/
def dotAt {n m : ℕ} (a : (⟨2, ![n, 1024]⟩ : Shape).Idx → EReal) (b : (⟨2, ![1024, m]⟩ : Shape).Idx → EReal) (r : Fin n) (c : Fin m) : EReal :=
  ∑ k : Fin 1024, a (ix2 r k) * b (ix2 k c)

theorem first_at (i : Fin 4) (b : Vec Ideal S1024x2048 .bf16) (a : Vec Ideal S512x1024 .bf16) (p q : Fin 512) (h : col i + q.val < 2048) :
    firstP i b a (ix3 (n0 := 1) (n1 := 512) (n2 := 512) 0 p q) = dotAt (n := 512) (m := 2048) a b p ⟨col i + q.val, h⟩ := by
  unfold dotAt
  pointwise [firstP, k0_pay1, k0_pay2]

theorem slot_at (d : Fin 2) (b : Vec Ideal S1024x2048 .bf16) (a : Vec Ideal S512x1024 .bf16) (p : Fin 512) (q : Fin 1024) (h : 1024 * d.val + q.val < 2048) :
    slotP d b a (ix3 (n0 := 1) (n1 := 512) (n2 := 1024) 0 p q) = dotAt (n := 512) (m := 2048) a b p ⟨1024 * d.val + q.val, h⟩ := by
  unfold dotAt
  pointwise [slotP, k0_pay1, k0_pay2]

theorem add_at (x y : Vec Ideal S1x512x512 .bf16) (p q : Fin 512) :
    addP x y (ix3 (n0 := 1) (n1 := 512) (n2 := 512) 0 p q) = (x (ix3 (n0 := 1) (n1 := 512) (n2 := 512) 0 p q) : EReal) + y (ix3 (n0 := 1) (n1 := 512) (n2 := 512) 0 p q) := by
  pointwise [k0_pay9]

theorem relu_at (x : Vec Ideal S1x512x512 .bf16) (p q : Fin 512) :
    reluP x (ix3 (n0 := 1) (n1 := 512) (n2 := 512) 0 p q) = max (x (ix3 (n0 := 1) (n1 := 512) (n2 := 512) 0 p q) : EReal) (Ideal.ofBits .bf16 0x0000#16) := by
  pointwise [k0_pay28]

theorem rows_at (k : Dev nD) (a : Vec Ideal S2048x1024 .bf16) (p : Fin 512) (c : Fin 1024) (h : 512 * k.val + p.val < 2048) :
    rows k a (ix2 (n0 := 512) (n1 := 1024) p c) = a (ix2 (n0 := 2048) (n1 := 1024) ⟨512 * k.val + p.val, h⟩ c) := by
  unfold rows
  congr 1
  funext t
  match t with
  | 0 => exact Fin.ext (by show 512 * k.val + 1 * p.val = 512 * k.val + p.val; omega)
  | 1 => exact Fin.ext (by show 0 + 1 * c.val = c.val; omega)

theorem half_at (h : Fin 2) (x : Vec Ideal S1x512x1024 .bf16) (p q : Fin 512) (hq : 512 * h.val + q.val < 1024) :
    halfV h x (ix3 (n0 := 1) (n1 := 512) (n2 := 512) 0 p q) = x (ix3 (n0 := 1) (n1 := 512) (n2 := 1024) 0 p ⟨512 * h.val + q.val, hq⟩) := by
  unfold halfV
  congr 1
  funext t
  match t with
  | 0 => exact Fin.ext (by show 0 + 1 * 0 = 0; omega)
  | 1 => exact Fin.ext (by show 0 + 1 * p.val = p.val; omega)
  | 2 => exact Fin.ext (by show 512 * h.val + 1 * q.val = 512 * h.val + q.val; omega)

/-- Four steps round the ring, in either direction, meet every device once. -/
theorem around_sum (d : Fin 2) (g : Dev nD) (f : Dev nD → EReal) :
    f (from' d g) + (f (from' d (from' d g)) + (f (from' d (from' d (from' d g))) + f g)) = ∑ y : Dev nD, f y := by
  have hu : (Finset.univ : Finset (Dev nD)) = {from' d g, from' d (from' d g), from' d (from' d (from' d g)), g} := by
    revert d g; decide
  rw [hu, Finset.sum_insert (by revert d g; decide), Finset.sum_insert (by revert d g; decide),
    Finset.sum_insert (by revert d g; decide), Finset.sum_singleton]

theorem chunk_one : ∀ (d : Fin 2) (g : Dev nD), chunk d 1 (from' d g) = g := by decide
theorem chunk_two : ∀ (d : Fin 2) (g : Dev nD), chunk d 2 (from' d (from' d g)) = g := by decide
theorem chunk_three : ∀ (d : Fin 2) (g : Dev nD), chunk d 3 (from' d (from' d (from' d g))) = g := by decide
theorem from_four : ∀ (d : Fin 2) (g : Dev nD), from' d (from' d (from' d (from' d g))) = g := by decide

section
variable (a : Dev nD → Vec Ideal S2048x1024 .bf16) (b : Dev nD → Vec Ideal S1024x2048 .bf16)

/-- What device `y` adds to an element of the result. -/
def share (r c : Fin 2048) (y : Dev nD) : EReal := dotAt (n := 2048) (m := 2048) (a y) (b y) r c

theorem dotAt_rows (k : Dev nD) (x : Vec Ideal S2048x1024 .bf16) (w : Vec Ideal S1024x2048 .bf16) (p : Fin 512) (c : Fin 2048) (h : 512 * k.val + p.val < 2048) :
    dotAt (n := 512) (m := 2048) (rows k x) w p c = dotAt (n := 2048) (m := 2048) x w ⟨512 * k.val + p.val, h⟩ c := by
  unfold dotAt
  exact Finset.sum_congr rfl fun t _ => by rw [rows_at k x p t h]

theorem part_at (i : Fin 4) (s x g : Dev nD) (hg : chunk (dir i) s x = g) (p q : Fin 512) (hr : 512 * g.val + p.val < 2048) (hc : col i + q.val < 2048) :
    halfV (half i) (part a b (dir i) s x) (ix3 (n0 := 1) (n1 := 512) (n2 := 512) 0 p q) = share a b ⟨512 * g.val + p.val, hr⟩ ⟨col i + q.val, hc⟩ x := by
  subst hg
  have h2 : 512 * (half i).val + q.val < 1024 := by have := (half i).isLt; omega
  rw [half_at _ _ p q h2]
  have h3 : 1024 * (dir i).val + (512 * (half i).val + q.val) < 2048 := by unfold col at hc; omega
  unfold part
  rw [slot_at (dir i) _ _ p ⟨_, h2⟩ h3, dotAt_rows _ _ _ _ _ hr]
  unfold share
  congr 1
  exact Fin.ext (by show 1024 * (dir i).val + (512 * (half i).val + q.val) = 1024 * (dir i).val + 512 * (half i).val + q.val; omega)

theorem piece_at (g : Dev nD) (i : Fin 4) (p q : Fin 512) (hr : 512 * g.val + p.val < 2048) (hc : col i + q.val < 2048) :
    piece a b g i (ix3 (n0 := 1) (n1 := 512) (n2 := 512) 0 p q)
      = max (∑ y : Dev nD, share a b ⟨512 * g.val + p.val, hr⟩ ⟨col i + q.val, hc⟩ y) (Ideal.ofBits .bf16 0x0000#16) := by
  rw [← around_sum (dir i) g]
  show reluP (addP (halfV (half i) (part a b (dir i) 1 (up i g)))
    (addP (halfV (half i) (part a b (dir i) 2 (up i (up i g))))
      (addP (halfV (half i) (part a b (dir i) 3 (up i (up i (up i g)))))
        (firstP i (b (up i (up i (up i (up i g))))) (rows (up i (up i (up i (up i g)))) (a (up i (up i (up i (up i g)))))))))) _ = _
  have h4 : up i (up i (up i (up i g))) = g := from_four _ _
  rw [h4, relu_at, add_at, add_at, add_at, part_at a b i 1 _ g (chunk_one _ _) p q hr hc, part_at a b i 2 _ g (chunk_two _ _) p q hr hc,
    part_at a b i 3 _ g (chunk_three _ _) p q hr hc, first_at i _ _ p q hc, dotAt_rows _ _ _ _ _ hr]
  rfl

theorem ix3_eq (x : Fin 1) (p q : Fin 512) : (ValueIdx.ix3 x p q : S1x512x512.Idx) = ix3 (n0 := 1) (n1 := 512) (n2 := 512) x p q := by
  funext t
  match t with
  | 0 => rfl
  | 1 => rfl
  | 2 => rfl

theorem result_at (r c : Fin 2048) :
    result a b (ix2 (n0 := 2048) (n1 := 2048) r c) = max (∑ y : Dev nD, share a b r c y) (Ideal.ofBits .bf16 0x0000#16) := by
  have hr := r.isLt
  have hc := c.isLt
  have hi : c.val / 1024 + 2 * (c.val / 512 % 2) < 4 := by omega
  have hcol : col ⟨c.val / 1024 + 2 * (c.val / 512 % 2), hi⟩ = 1024 * ((c.val / 1024 + 2 * (c.val / 512 % 2)) % 2) + 512 * ((c.val / 1024 + 2 * (c.val / 512 % 2)) / 2) := rfl
  have e1 : 512 * (r.val / 512) + r.val % 512 = r.val := by omega
  have e2 : col ⟨c.val / 1024 + 2 * (c.val / 512 % 2), hi⟩ + c.val % 512 = c.val := by
    have m1 : (c.val / 1024 + 2 * (c.val / 512 % 2)) % 2 = c.val / 1024 := by omega
    have m2 : (c.val / 1024 + 2 * (c.val / 512 % 2)) / 2 = c.val / 512 % 2 := by omega
    rw [hcol, m1, m2]
    omega
  have key := piece_at a b ⟨r.val / 512, by show _ < 4; omega⟩ ⟨c.val / 1024 + 2 * (c.val / 512 % 2), hi⟩ ⟨r.val % 512, by omega⟩ ⟨c.val % 512, by omega⟩
    (by show 512 * (r.val / 512) + r.val % 512 < 2048; omega) (by show _ + c.val % 512 < 2048; omega)
  have f1 : (⟨512 * (r.val / 512) + r.val % 512, by omega⟩ : Fin 2048) = r := Fin.ext e1
  have f2 : (⟨col ⟨c.val / 1024 + 2 * (c.val / 512 % 2), hi⟩ + c.val % 512, by omega⟩ : Fin 2048) = c := Fin.ext e2
  have k2 : ∀ y, share a b ⟨512 * (r.val / 512) + r.val % 512, by omega⟩ ⟨col ⟨c.val / 1024 + 2 * (c.val / 512 % 2), hi⟩ + c.val % 512, by omega⟩ y = share a b r c y := by
    intro y; rw [f1, f2]
  refine Eq.trans ?_ (key.trans ?_)
  · rw [← ix3_eq]; rfl
  · exact congrArg (fun z => max z _) (Finset.sum_congr rfl fun y _ => k2 y)

/-- The same element, when the devices hold the blocks of two arrays. -/
theorem result_blocks (A : Vec Ideal Cert.ReferenceIdeal.S2048x4096 .bf16) (B : Vec Ideal Cert.ReferenceIdeal.S4096x2048 .bf16)
    (ha : ∀ y : Dev nD, a y = Layout.block ⟨2, ![2048, 1024]⟩ ⟨2, ![2048, 4096]⟩ 1 4 y A)
    (hb : ∀ y : Dev nD, b y = Layout.block ⟨2, ![1024, 2048]⟩ ⟨2, ![4096, 2048]⟩ 0 4 y B) (r c : Fin 2048) :
    result a b (ix2 (n0 := 2048) (n1 := 2048) r c)
      = max (∑ k : Fin 4096, (A (ix2 (n0 := 2048) (n1 := 4096) r k) : EReal) * B (ix2 (n0 := 4096) (n1 := 2048) k c)) (Ideal.ofBits .bf16 0x0000#16) := by
  rw [result_at]
  refine congrArg (fun z => max z _) ?_
  rw [← Fintype.sum_equiv (finProdFinEquiv (m := 4) (n := 1024))
    (fun y : Fin 4 × Fin 1024 => (a y.1 (ix2 (n0 := 2048) (n1 := 1024) r y.2) : EReal) * b y.1 (ix2 (n0 := 1024) (n1 := 2048) y.2 c)) _ ?_, Fintype.sum_prod_type]
  · rfl
  rintro ⟨y, k⟩
  have hk : (finProdFinEquiv (m := 4) (n := 1024) (y, k)).val = k.val + 1024 * y.val := rfl
  have h1 : a y (ix2 (n0 := 2048) (n1 := 1024) r k) = A (ix2 (n0 := 2048) (n1 := 4096) r (finProdFinEquiv (m := 4) (n := 1024) (y, k))) := by
    rw [ha y, Layout.block_apply]
    congr 1
    funext t
    match t with
    | 0 => rfl
    | 1 => exact Fin.ext (by rw [(Layout.idx_cols_val _ _ _).2]; show y.val * 1024 + k.val = k.val + 1024 * y.val; omega)
  have h2 : b y (ix2 (n0 := 1024) (n1 := 2048) k c) = B (ix2 (n0 := 4096) (n1 := 2048) (finProdFinEquiv (m := 4) (n := 1024) (y, k)) c) := by
    rw [hb y, Layout.block_apply]
    congr 1
    funext t
    match t with
    | 0 => exact Fin.ext (by rw [(Layout.idx_rows_val _ _ _).1]; show y.val * 1024 + k.val = k.val + 1024 * y.val; omega)
    | 1 => rfl
  exact congrArg₂ (fun u v : EReal => u * v) h1 h2
end

/-- The reference's composed term, element by element. -/
theorem reference_at (A : Vec Ideal Cert.ReferenceIdeal.S2048x4096 .bf16) (B : Vec Ideal Cert.ReferenceIdeal.S4096x2048 .bf16) (r c : Fin 2048) :
    (maximumf (truncf .bf16 (Host.dotGeneral (F := Ideal) (φ₁ := .bf16) (φ₂ := .bf16) Cert.ReferenceIdeal.dot_S2048x4096_S4096x2048_S2048x2048_1_0_0_1_n_n none A B) Cert.ReferenceIdeal.Gen.bitsLt_bf16_f32)
        (broadcastInDim Cert.ReferenceIdeal.S2048x2048 ![] Cert.ReferenceIdeal.Gen.bcast_S_S2048x2048 (constant Cert.ReferenceIdeal.S_ .bf16 0x0000#16)) : Vec Ideal Cert.ReferenceIdeal.S2048x2048 .bf16)
        (ix2 (n0 := 2048) (n1 := 2048) r c)
      = max (∑ k : Fin 4096, (A (ix2 (n0 := 2048) (n1 := 4096) r k) : EReal) * B (ix2 (n0 := 4096) (n1 := 2048) k c)) (Ideal.ofBits .bf16 0x0000#16) := by
  pointwise

end Cert.RingProof.Value

end
-- ==== Proof.lean ====
/-
# The proof of the claims

The run of the kernel (Run.lean) is stated over any float values, so it gives the frame of the printed program and
of its reading over the extended reals alike. The reference's run is its operations one after
another, and its result is the ring's (Value.lean).
-/
module

public import proofs.«01_k».proof.Defs
public import proofs.«01_k».proof.Proof.Run
public import proofs.«01_k».proof.Proof.Value
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import Idealize.ShloMosaic.Adequacy
public import Idealize.ShloMosaic.Init

@[expose] public section

noncomputable section

namespace Cert.Proof

open Idealize.ShloMosaic Idealize.SL.Sem Cert.RingProof

/-- The printed kernel's bodies are those of its reading over the extended reals. -/
theorem bodies_eq : Cert.Kernel.defs₀ (F := Bits) = Cert.KernelIdeal.defs₀ (F := Bits) := by
  unfold Cert.Kernel.defs₀ Cert.KernelIdeal.defs₀
  refine congrArg Defs.onTc (funext fun l => ?_)
  match l with
  | 0 => rfl

theorem defs_eq : Cert.Kernel.defs (F := Bits) = Cert.KernelIdeal.defs (F := Bits) :=
  congrArg (Pipeline.defs Cert.KernelIdeal.pcfgs) bodies_eq

/-- The kernel terminates, its arguments unchanged and every counter at zero. -/
theorem frame_kernel : Cert.quiescent_Kernel := fun m ρ _ => by
  rw [defs_eq]
  exact run_frame (F := Bits) m ρ

/-- The same over the extended reals. -/
theorem frame_kernelIdeal : Cert.quiescent_KernelIdeal := fun m ρ _ => run_frame (F := Ideal) m ρ

/-- The reference too; it has no counter. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Over the extended reals every device ends with the reference's result. -/
theorem algebraic : Cert.algebraic_KernelIdeal_ReferenceIdeal := fun m g m' g' _ hb =>
  ⟨_, (θ_run Cert.KernelIdeal.defs _ _).mono (fun r h c => ⟨(h.1 c).1.trans (by
        funext x
        rw [eq_ix2 x]
        exact (Value.result_blocks _ _ _ _ (fun y => (hb y).1) (fun y => (hb y).2) _ _).trans (Value.reference_at _ _ _ _).symm), (h.1 c).2⟩)
      (run_result (F := Ideal) m g),
    (θ_run Cert.ReferenceIdeal.defs _ _).mono (fun _ h => h 0) (Cert.ReferenceIdeal.Value.run (F := Ideal) m' g')⟩

theorem claim : Cert.Claim := ⟨Cert.Kernel.Gen.facts, Cert.KernelIdeal.Gen.facts, Cert.ReferenceIdeal.Gen.facts,
  frame_kernel, frame_kernelIdeal, frame_reference, trivial, algebraic⟩

end Cert.Proof

end
